-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S32x128x4096 : Shape := ⟨3, ![32, 128, 4096]⟩
abbrev S32 : Shape := ⟨1, ![32]⟩
abbrev S_ : Shape := ⟨0, ![]⟩
abbrev S2x128x4096 : Shape := ⟨3, ![2, 128, 4096]⟩
abbrev S1 : Shape := ⟨1, ![1]⟩
abbrev S1x128x4096 : Shape := ⟨3, ![1, 128, 4096]⟩
abbrev S128x4096 : Shape := ⟨2, ![128, 4096]⟩
abbrev S128x128 : Shape := ⟨2, ![128, 128]⟩

abbrev nBuf : Space → Nat
  | .hbm => 3
  | .vmem => 4
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S32x128x4096, .bf16⟩
  | _, _ => ⟨S256x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_93 : BitVec 32 := 1#32
  let v116 : BitVec 32 := Scalar.muli v114 c1_i32_93
  let v117 : BitVec 32 := Scalar.addi c0_i32_94 v116
  v117.toNat
def k0_dev2 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_96 : BitVec 32 := 1#32
  let v118 : BitVec 32 := Scalar.muli v73 c1_i32_96
  let v119 : BitVec 32 := Scalar.addi c0_i32_97 v118
  v119.toNat
def k0_off1 (d0 : Dev nD) : Fin 3 → Nat :=
  let c2_i32_102 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v125 : BitVec 32 := Scalar.muli c2_i32_102 v32
  let v126 : Index := Scalar.indexCast v125
  let c0_103 : Index := 0#32
  let c0_104 : Index := 0#32
  ![v126.toNat, 0, 0]
def k0_off2 (d0 : Dev nD) (c1_i32_105 : BitVec 32) : Fin 1 → Nat :=
  let c2_i32_121 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v130 : BitVec 32 := Scalar.subi v32 c1_i32_105
  let c1_i32_106 : BitVec 32 := 1#32
  let v131 : BitVec 32 := Scalar.addi v130 c1_i32_106
  let c16_i32_107 : BitVec 32 := 16#32
  let c0_i32_108 : BitVec 32 := 0#32
  let v132 : BitVec 1 := Scalar.cmpi .eq c16_i32_107 c0_i32_108
  let c1_i32_109 : BitVec 32 := 1#32
  let v133 : BitVec 32 := Scalar.select v132 c1_i32_109 c16_i32_107
  let v134 : BitVec 32 := Scalar.remsi v131 v133
  let c0_i32_111 : BitVec 32 := 0#32
  let v136 : BitVec 1 := Scalar.cmpi .slt v134 c0_i32_111
  let c0_i32_112 : BitVec 32 := 0#32
  let v137 : BitVec 1 := Scalar.cmpi .slt v133 c0_i32_112
  let v138 : BitVec 1 := Scalar.xori v136 v137
  let c0_i32_110 : BitVec 32 := 0#32
  let v135 : BitVec 1 := Scalar.cmpi .ne v134 c0_i32_110
  let v139 : BitVec 1 := Scalar.andi v138 v135
  let v140 : BitVec 32 := Scalar.addi v134 v133
  let v141 : BitVec 32 := Scalar.select v139 v140 v134
  let v154 : BitVec 32 := Scalar.muli c2_i32_121 v141
  ![v154.toNat]
def k0_off3 (d0 : Dev nD) (c1_i32_105 : BitVec 32) : Fin 3 → Nat :=
  let c2_i32_121 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v130 : BitVec 32 := Scalar.subi v32 c1_i32_105
  let c1_i32_106 : BitVec 32 := 1#32
  let v131 : BitVec 32 := Scalar.addi v130 c1_i32_106
  let c16_i32_107 : BitVec 32 := 16#32
  let c0_i32_108 : BitVec 32 := 0#32
  let v132 : BitVec 1 := Scalar.cmpi .eq c16_i32_107 c0_i32_108
  let c1_i32_109 : BitVec 32 := 1#32
  let v133 : BitVec 32 := Scalar.select v132 c1_i32_109 c16_i32_107
  let v134 : BitVec 32 := Scalar.remsi v131 v133
  let c0_i32_111 : BitVec 32 := 0#32
  let v136 : BitVec 1 := Scalar.cmpi .slt v134 c0_i32_111
  let c0_i32_112 : BitVec 32 := 0#32
  let v137 : BitVec 1 := Scalar.cmpi .slt v133 c0_i32_112
  let v138 : BitVec 1 := Scalar.xori v136 v137
  let c0_i32_110 : BitVec 32 := 0#32
  let v135 : BitVec 1 := Scalar.cmpi .ne v134 c0_i32_110
  let v139 : BitVec 1 := Scalar.andi v138 v135
  let v140 : BitVec 32 := Scalar.addi v134 v133
  let v141 : BitVec 32 := Scalar.select v139 v140 v134
  let v154 : BitVec 32 := Scalar.muli c2_i32_121 v141
  let c0_i32_129 : BitVec 32 := 0#32
  let c0_i32_130 : BitVec 32 := 0#32
  ![v154.toNat, 0, 0]
def k0_dev3 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_127 : BitVec 32 := 1#32
  let v160 : BitVec 32 := Scalar.muli v73 c1_i32_127
  let v161 : BitVec 32 := Scalar.addi c0_i32_128 v160
  v161.toNat
def k0_off4 (d0 : Dev nD) (c1_i32_113 : BitVec 32) : Fin 1 → Nat :=
  let c2_i32_122 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v142 : BitVec 32 := Scalar.addi v32 c1_i32_113
  let c1_i32_114 : BitVec 32 := 1#32
  let v143 : BitVec 32 := Scalar.subi v142 c1_i32_114
  let c16_i32_115 : BitVec 32 := 16#32
  let c0_i32_116 : BitVec 32 := 0#32
  let v144 : BitVec 1 := Scalar.cmpi .eq c16_i32_115 c0_i32_116
  let c1_i32_117 : BitVec 32 := 1#32
  let v145 : BitVec 32 := Scalar.select v144 c1_i32_117 c16_i32_115
  let v146 : BitVec 32 := Scalar.remsi v143 v145
  let c0_i32_119 : BitVec 32 := 0#32
  let v148 : BitVec 1 := Scalar.cmpi .slt v146 c0_i32_119
  let c0_i32_120 : BitVec 32 := 0#32
  let v149 : BitVec 1 := Scalar.cmpi .slt v145 c0_i32_120
  let v150 : BitVec 1 := Scalar.xori v148 v149
  let c0_i32_118 : BitVec 32 := 0#32
  let v147 : BitVec 1 := Scalar.cmpi .ne v146 c0_i32_118
  let v151 : BitVec 1 := Scalar.andi v150 v147
  let v152 : BitVec 32 := Scalar.addi v146 v145
  let v153 : BitVec 32 := Scalar.select v151 v152 v146
  let v155 : BitVec 32 := Scalar.muli c2_i32_122 v153
  let c1_i32_123 : BitVec 32 := 1#32
  let v156 : BitVec 32 := Scalar.addi v155 c1_i32_123
  ![v156.toNat]
def k0_off5 (d0 : Dev nD) (c1_i32_113 : BitVec 32) : Fin 3 → Nat :=
  let c2_i32_122 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v142 : BitVec 32 := Scalar.addi v32 c1_i32_113
  let c1_i32_114 : BitVec 32 := 1#32
  let v143 : BitVec 32 := Scalar.subi v142 c1_i32_114
  let c16_i32_115 : BitVec 32 := 16#32
  let c0_i32_116 : BitVec 32 := 0#32
  let v144 : BitVec 1 := Scalar.cmpi .eq c16_i32_115 c0_i32_116
  let c1_i32_117 : BitVec 32 := 1#32
  let v145 : BitVec 32 := Scalar.select v144 c1_i32_117 c16_i32_115
  let v146 : BitVec 32 := Scalar.remsi v143 v145
  let c0_i32_119 : BitVec 32 := 0#32
  let v148 : BitVec 1 := Scalar.cmpi .slt v146 c0_i32_119
  let c0_i32_120 : BitVec 32 := 0#32
  let v149 : BitVec 1 := Scalar.cmpi .slt v145 c0_i32_120
  let v150 : BitVec 1 := Scalar.xori v148 v149
  let c0_i32_118 : BitVec 32 := 0#32
  let v147 : BitVec 1 := Scalar.cmpi .ne v146 c0_i32_118
  let v151 : BitVec 1 := Scalar.andi v150 v147
  let v152 : BitVec 32 := Scalar.addi v146 v145
  let v153 : BitVec 32 := Scalar.select v151 v152 v146
  let v155 : BitVec 32 := Scalar.muli c2_i32_122 v153
  let c1_i32_123 : BitVec 32 := 1#32
  let v156 : BitVec 32 := Scalar.addi v155 c1_i32_123
  let c0_i32_135 : BitVec 32 := 0#32
  let c0_i32_136 : BitVec 32 := 0#32
  ![v156.toNat, 0, 0]
def k0_dev4 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_133 : BitVec 32 := 1#32
  let v170 : BitVec 32 := Scalar.muli v114 c1_i32_133
  let v171 : BitVec 32 := Scalar.addi c0_i32_134 v170
  v171.toNat
def k0_off6 (d0 : Dev nD) (c1_i32_105 : BitVec 32) : Fin 1 → Nat :=
  let c2_i32_124 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v130 : BitVec 32 := Scalar.subi v32 c1_i32_105
  let c1_i32_106 : BitVec 32 := 1#32
  let v131 : BitVec 32 := Scalar.addi v130 c1_i32_106
  let c16_i32_107 : BitVec 32 := 16#32
  let c0_i32_108 : BitVec 32 := 0#32
  let v132 : BitVec 1 := Scalar.cmpi .eq c16_i32_107 c0_i32_108
  let c1_i32_109 : BitVec 32 := 1#32
  let v133 : BitVec 32 := Scalar.select v132 c1_i32_109 c16_i32_107
  let v134 : BitVec 32 := Scalar.remsi v131 v133
  let c0_i32_111 : BitVec 32 := 0#32
  let v136 : BitVec 1 := Scalar.cmpi .slt v134 c0_i32_111
  let c0_i32_112 : BitVec 32 := 0#32
  let v137 : BitVec 1 := Scalar.cmpi .slt v133 c0_i32_112
  let v138 : BitVec 1 := Scalar.xori v136 v137
  let c0_i32_110 : BitVec 32 := 0#32
  let v135 : BitVec 1 := Scalar.cmpi .ne v134 c0_i32_110
  let v139 : BitVec 1 := Scalar.andi v138 v135
  let v140 : BitVec 32 := Scalar.addi v134 v133
  let v141 : BitVec 32 := Scalar.select v139 v140 v134
  let v157 : BitVec 32 := Scalar.muli c2_i32_124 v141
  let c1_i32_125 : BitVec 32 := 1#32
  let v158 : BitVec 32 := Scalar.addi v157 c1_i32_125
  ![v158.toNat]
def k0_off7 (d0 : Dev nD) (c1_i32_105 : BitVec 32) : Fin 3 → Nat :=
  let c2_i32_124 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v130 : BitVec 32 := Scalar.subi v32 c1_i32_105
  let c1_i32_106 : BitVec 32 := 1#32
  let v131 : BitVec 32 := Scalar.addi v130 c1_i32_106
  let c16_i32_107 : BitVec 32 := 16#32
  let c0_i32_108 : BitVec 32 := 0#32
  let v132 : BitVec 1 := Scalar.cmpi .eq c16_i32_107 c0_i32_108
  let c1_i32_109 : BitVec 32 := 1#32
  let v133 : BitVec 32 := Scalar.select v132 c1_i32_109 c16_i32_107
  let v134 : BitVec 32 := Scalar.remsi v131 v133
  let c0_i32_111 : BitVec 32 := 0#32
  let v136 : BitVec 1 := Scalar.cmpi .slt v134 c0_i32_111
  let c0_i32_112 : BitVec 32 := 0#32
  let v137 : BitVec 1 := Scalar.cmpi .slt v133 c0_i32_112
  let v138 : BitVec 1 := Scalar.xori v136 v137
  let c0_i32_110 : BitVec 32 := 0#32
  let v135 : BitVec 1 := Scalar.cmpi .ne v134 c0_i32_110
  let v139 : BitVec 1 := Scalar.andi v138 v135
  let v140 : BitVec 32 := Scalar.addi v134 v133
  let v141 : BitVec 32 := Scalar.select v139 v140 v134
  let v157 : BitVec 32 := Scalar.muli c2_i32_124 v141
  let c1_i32_125 : BitVec 32 := 1#32
  let v158 : BitVec 32 := Scalar.addi v157 c1_i32_125
  let c0_i32_141 : BitVec 32 := 0#32
  let c0_i32_142 : BitVec 32 := 0#32
  ![v158.toNat, 0, 0]
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_139 : BitVec 32 := 1#32
  let v180 : BitVec 32 := Scalar.muli v73 c1_i32_139
  let v181 : BitVec 32 := Scalar.addi c0_i32_140 v180
  v181.toNat
def k0_off8 (d0 : Dev nD) (c1_i32_113 : BitVec 32) : Fin 1 → Nat :=
  let c2_i32_126 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v142 : BitVec 32 := Scalar.addi v32 c1_i32_113
  let c1_i32_114 : BitVec 32 := 1#32
  let v143 : BitVec 32 := Scalar.subi v142 c1_i32_114
  let c16_i32_115 : BitVec 32 := 16#32
  let c0_i32_116 : BitVec 32 := 0#32
  let v144 : BitVec 1 := Scalar.cmpi .eq c16_i32_115 c0_i32_116
  let c1_i32_117 : BitVec 32 := 1#32
  let v145 : BitVec 32 := Scalar.select v144 c1_i32_117 c16_i32_115
  let v146 : BitVec 32 := Scalar.remsi v143 v145
  let c0_i32_119 : BitVec 32 := 0#32
  let v148 : BitVec 1 := Scalar.cmpi .slt v146 c0_i32_119
  let c0_i32_120 : BitVec 32 := 0#32
  let v149 : BitVec 1 := Scalar.cmpi .slt v145 c0_i32_120
  let v150 : BitVec 1 := Scalar.xori v148 v149
  let c0_i32_118 : BitVec 32 := 0#32
  let v147 : BitVec 1 := Scalar.cmpi .ne v146 c0_i32_118
  let v151 : BitVec 1 := Scalar.andi v150 v147
  let v152 : BitVec 32 := Scalar.addi v146 v145
  let v153 : BitVec 32 := Scalar.select v151 v152 v146
  let v159 : BitVec 32 := Scalar.muli c2_i32_126 v153
  ![v159.toNat]
def k0_off9 (d0 : Dev nD) (c1_i32_113 : BitVec 32) : Fin 3 → Nat :=
  let c2_i32_126 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v142 : BitVec 32 := Scalar.addi v32 c1_i32_113
  let c1_i32_114 : BitVec 32 := 1#32
  let v143 : BitVec 32 := Scalar.subi v142 c1_i32_114
  let c16_i32_115 : BitVec 32 := 16#32
  let c0_i32_116 : BitVec 32 := 0#32
  let v144 : BitVec 1 := Scalar.cmpi .eq c16_i32_115 c0_i32_116
  let c1_i32_117 : BitVec 32 := 1#32
  let v145 : BitVec 32 := Scalar.select v144 c1_i32_117 c16_i32_115
  let v146 : BitVec 32 := Scalar.remsi v143 v145
  let c0_i32_119 : BitVec 32 := 0#32
  let v148 : BitVec 1 := Scalar.cmpi .slt v146 c0_i32_119
  let c0_i32_120 : BitVec 32 := 0#32
  let v149 : BitVec 1 := Scalar.cmpi .slt v145 c0_i32_120
  let v150 : BitVec 1 := Scalar.xori v148 v149
  let c0_i32_118 : BitVec 32 := 0#32
  let v147 : BitVec 1 := Scalar.cmpi .ne v146 c0_i32_118
  let v151 : BitVec 1 := Scalar.andi v150 v147
  let v152 : BitVec 32 := Scalar.addi v146 v145
  let v153 : BitVec 32 := Scalar.select v151 v152 v146
  let v159 : BitVec 32 := Scalar.muli c2_i32_126 v153
  let c0_i32_147 : BitVec 32 := 0#32
  let c0_i32_148 : BitVec 32 := 0#32
  ![v159.toNat, 0, 0]
def k0_dev6 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_145 : BitVec 32 := 1#32
  let v190 : BitVec 32 := Scalar.muli v114 c1_i32_145
  let v191 : BitVec 32 := Scalar.addi c0_i32_146 v190
  v191.toNat
def k0_off10 (d0 : Dev nD) : Fin 3 → Nat :=
  let c2_i32_151 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v200 : BitVec 32 := Scalar.muli c2_i32_151 v32
  let v261 : Index := Scalar.indexCast v200
  let c0_196 : Index := 0#32
  let c0_197 : Index := 0#32
  ![v261.toNat, 0, 0]
def k0_off11 (d0 : Dev nD) : Fin 2 → Nat :=
  let c2_i32_151 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v200 : BitVec 32 := Scalar.muli c2_i32_151 v32
  let c0_i32_153 : BitVec 32 := 0#32
  let v202 : BitVec 1 := Scalar.cmpi .sgt v200 c0_i32_153
  let v203 : BitVec 32 := Scalar.extui v202
  let c0_i32_154 : BitVec 32 := 0#32
  let v204 : BitVec 1 := Scalar.cmpi .slt v200 c0_i32_154
  let v205 : BitVec 32 := Scalar.extui v204
  let v206 : BitVec 32 := Scalar.subi v203 v205
  let c2_i32_152 : BitVec 32 := 2#32
  let c0_i32_155 : BitVec 32 := 0#32
  let v207 : BitVec 1 := Scalar.cmpi .sgt c2_i32_152 c0_i32_155
  let v208 : BitVec 32 := Scalar.extui v207
  let c0_i32_156 : BitVec 32 := 0#32
  let v209 : BitVec 1 := Scalar.cmpi .slt c2_i32_152 c0_i32_156
  let v210 : BitVec 32 := Scalar.extui v209
  let v211 : BitVec 32 := Scalar.subi v208 v210
  let v212 : BitVec 1 := Scalar.cmpi .ne v206 v211
  let v213 : BitVec 32 := Scalar.remsi v200 c2_i32_152
  let c0_i32_157 : BitVec 32 := 0#32
  let v214 : BitVec 1 := Scalar.cmpi .ne v213 c0_i32_157
  let v215 : BitVec 1 := Scalar.andi v212 v214
  let v201 : BitVec 32 := Scalar.divsi v200 c2_i32_152
  let c1_i32_158 : BitVec 32 := 1#32
  let v216 : BitVec 32 := Scalar.subi v201 c1_i32_158
  let v217 : BitVec 32 := Scalar.select v215 v216 v201
  let c15_i32_188 : BitVec 32 := 15#32
  let v246 : BitVec 1 := Scalar.cmpi .eq v217 c15_i32_188
  let c0_i32_189 : BitVec 32 := 0#32
  let c14_i32_186 : BitVec 32 := 14#32
  let v244 : BitVec 1 := Scalar.cmpi .eq v217 c14_i32_186
  let c4_i32_187 : BitVec 32 := 4#32
  let c13_i32_184 : BitVec 32 := 13#32
  let v242 : BitVec 1 := Scalar.cmpi .eq v217 c13_i32_184
  let c8_i32_185 : BitVec 32 := 8#32
  let c12_i32_182 : BitVec 32 := 12#32
  let v240 : BitVec 1 := Scalar.cmpi .eq v217 c12_i32_182
  let c12_i32_183 : BitVec 32 := 12#32
  let c11_i32_180 : BitVec 32 := 11#32
  let v238 : BitVec 1 := Scalar.cmpi .eq v217 c11_i32_180
  let c15_i32_181 : BitVec 32 := 15#32
  let c10_i32_178 : BitVec 32 := 10#32
  let v236 : BitVec 1 := Scalar.cmpi .eq v217 c10_i32_178
  let c11_i32_179 : BitVec 32 := 11#32
  let c9_i32_176 : BitVec 32 := 9#32
  let v234 : BitVec 1 := Scalar.cmpi .eq v217 c9_i32_176
  let c7_i32_177 : BitVec 32 := 7#32
  let c8_i32_174 : BitVec 32 := 8#32
  let v232 : BitVec 1 := Scalar.cmpi .eq v217 c8_i32_174
  let c3_i32_175 : BitVec 32 := 3#32
  let c7_i32_172 : BitVec 32 := 7#32
  let v230 : BitVec 1 := Scalar.cmpi .eq v217 c7_i32_172
  let c2_i32_173 : BitVec 32 := 2#32
  let c6_i32_170 : BitVec 32 := 6#32
  let v228 : BitVec 1 := Scalar.cmpi .eq v217 c6_i32_170
  let c6_i32_171 : BitVec 32 := 6#32
  let c5_i32_168 : BitVec 32 := 5#32
  let v226 : BitVec 1 := Scalar.cmpi .eq v217 c5_i32_168
  let c10_i32_169 : BitVec 32 := 10#32
  let c4_i32_166 : BitVec 32 := 4#32
  let v224 : BitVec 1 := Scalar.cmpi .eq v217 c4_i32_166
  let c14_i32_167 : BitVec 32 := 14#32
  let c3_i32_164 : BitVec 32 := 3#32
  let v222 : BitVec 1 := Scalar.cmpi .eq v217 c3_i32_164
  let c13_i32_165 : BitVec 32 := 13#32
  let c2_i32_162 : BitVec 32 := 2#32
  let v220 : BitVec 1 := Scalar.cmpi .eq v217 c2_i32_162
  let c9_i32_163 : BitVec 32 := 9#32
  let c1_i32_159 : BitVec 32 := 1#32
  let v218 : BitVec 1 := Scalar.cmpi .eq v217 c1_i32_159
  let c5_i32_160 : BitVec 32 := 5#32
  let c1_i32_161 : BitVec 32 := 1#32
  let v219 : BitVec 32 := Scalar.select v218 c5_i32_160 c1_i32_161
  let v221 : BitVec 32 := Scalar.select v220 c9_i32_163 v219
  let v223 : BitVec 32 := Scalar.select v222 c13_i32_165 v221
  let v225 : BitVec 32 := Scalar.select v224 c14_i32_167 v223
  let v227 : BitVec 32 := Scalar.select v226 c10_i32_169 v225
  let v229 : BitVec 32 := Scalar.select v228 c6_i32_171 v227
  let v231 : BitVec 32 := Scalar.select v230 c2_i32_173 v229
  let v233 : BitVec 32 := Scalar.select v232 c3_i32_175 v231
  let v235 : BitVec 32 := Scalar.select v234 c7_i32_177 v233
  let v237 : BitVec 32 := Scalar.select v236 c11_i32_179 v235
  let v239 : BitVec 32 := Scalar.select v238 c15_i32_181 v237
  let v241 : BitVec 32 := Scalar.select v240 c12_i32_183 v239
  let v243 : BitVec 32 := Scalar.select v242 c8_i32_185 v241
  let v245 : BitVec 32 := Scalar.select v244 c4_i32_187 v243
  let v247 : BitVec 32 := Scalar.select v246 c0_i32_189 v245
  let c256_i32 : BitVec 32 := 256#32
  let v248 : BitVec 32 := Scalar.muli v247 c256_i32
  let c2_i32_190 : BitVec 32 := 2#32
  let c0_i32_191 : BitVec 32 := 0#32
  let v249 : BitVec 1 := Scalar.cmpi .eq c2_i32_190 c0_i32_191
  let c1_i32_192 : BitVec 32 := 1#32
  let v250 : BitVec 32 := Scalar.select v249 c1_i32_192 c2_i32_190
  let v251 : BitVec 32 := Scalar.remsi v200 v250
  let c0_i32_194 : BitVec 32 := 0#32
  let v253 : BitVec 1 := Scalar.cmpi .slt v251 c0_i32_194
  let c0_i32_195 : BitVec 32 := 0#32
  let v254 : BitVec 1 := Scalar.cmpi .slt v250 c0_i32_195
  let v255 : BitVec 1 := Scalar.xori v253 v254
  let c0_i32_193 : BitVec 32 := 0#32
  let v252 : BitVec 1 := Scalar.cmpi .ne v251 c0_i32_193
  let v256 : BitVec 1 := Scalar.andi v255 v252
  let v257 : BitVec 32 := Scalar.addi v251 v250
  let v258 : BitVec 32 := Scalar.select v256 v257 v251
  let c128_i32 : BitVec 32 := 128#32
  let v259 : BitVec 32 := Scalar.muli v258 c128_i32
  let v260 : BitVec 32 := Scalar.addi v248 v259
  let v267 : Index := Scalar.indexCast v260
  let c0_199 : Index := 0#32
  ![v267.toNat, 0]
def k0_off12 (d0 : Dev nD) : Fin 3 → Nat :=
  let c2_i32_200 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v269 : BitVec 32 := Scalar.muli c2_i32_200 v32
  let c1_i32_201 : BitVec 32 := 1#32
  let v270 : BitVec 32 := Scalar.addi v269 c1_i32_201
  let v331 : Index := Scalar.indexCast v270
  let c0_248 : Index := 0#32
  let c0_249 : Index := 0#32
  ![v331.toNat, 0, 0]
def k0_off13 (d0 : Dev nD) : Fin 2 → Nat :=
  let c2_i32_200 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v269 : BitVec 32 := Scalar.muli c2_i32_200 v32
  let c1_i32_201 : BitVec 32 := 1#32
  let v270 : BitVec 32 := Scalar.addi v269 c1_i32_201
  let c0_i32_203 : BitVec 32 := 0#32
  let v272 : BitVec 1 := Scalar.cmpi .sgt v270 c0_i32_203
  let v273 : BitVec 32 := Scalar.extui v272
  let c0_i32_204 : BitVec 32 := 0#32
  let v274 : BitVec 1 := Scalar.cmpi .slt v270 c0_i32_204
  let v275 : BitVec 32 := Scalar.extui v274
  let v276 : BitVec 32 := Scalar.subi v273 v275
  let c2_i32_202 : BitVec 32 := 2#32
  let c0_i32_205 : BitVec 32 := 0#32
  let v277 : BitVec 1 := Scalar.cmpi .sgt c2_i32_202 c0_i32_205
  let v278 : BitVec 32 := Scalar.extui v277
  let c0_i32_206 : BitVec 32 := 0#32
  let v279 : BitVec 1 := Scalar.cmpi .slt c2_i32_202 c0_i32_206
  let v280 : BitVec 32 := Scalar.extui v279
  let v281 : BitVec 32 := Scalar.subi v278 v280
  let v282 : BitVec 1 := Scalar.cmpi .ne v276 v281
  let v283 : BitVec 32 := Scalar.remsi v270 c2_i32_202
  let c0_i32_207 : BitVec 32 := 0#32
  let v284 : BitVec 1 := Scalar.cmpi .ne v283 c0_i32_207
  let v285 : BitVec 1 := Scalar.andi v282 v284
  let v271 : BitVec 32 := Scalar.divsi v270 c2_i32_202
  let c1_i32_208 : BitVec 32 := 1#32
  let v286 : BitVec 32 := Scalar.subi v271 c1_i32_208
  let v287 : BitVec 32 := Scalar.select v285 v286 v271
  let c15_i32_238 : BitVec 32 := 15#32
  let v316 : BitVec 1 := Scalar.cmpi .eq v287 c15_i32_238
  let c0_i32_239 : BitVec 32 := 0#32
  let c14_i32_236 : BitVec 32 := 14#32
  let v314 : BitVec 1 := Scalar.cmpi .eq v287 c14_i32_236
  let c4_i32_237 : BitVec 32 := 4#32
  let c13_i32_234 : BitVec 32 := 13#32
  let v312 : BitVec 1 := Scalar.cmpi .eq v287 c13_i32_234
  let c8_i32_235 : BitVec 32 := 8#32
  let c12_i32_232 : BitVec 32 := 12#32
  let v310 : BitVec 1 := Scalar.cmpi .eq v287 c12_i32_232
  let c12_i32_233 : BitVec 32 := 12#32
  let c11_i32_230 : BitVec 32 := 11#32
  let v308 : BitVec 1 := Scalar.cmpi .eq v287 c11_i32_230
  let c15_i32_231 : BitVec 32 := 15#32
  let c10_i32_228 : BitVec 32 := 10#32
  let v306 : BitVec 1 := Scalar.cmpi .eq v287 c10_i32_228
  let c11_i32_229 : BitVec 32 := 11#32
  let c9_i32_226 : BitVec 32 := 9#32
  let v304 : BitVec 1 := Scalar.cmpi .eq v287 c9_i32_226
  let c7_i32_227 : BitVec 32 := 7#32
  let c8_i32_224 : BitVec 32 := 8#32
  let v302 : BitVec 1 := Scalar.cmpi .eq v287 c8_i32_224
  let c3_i32_225 : BitVec 32 := 3#32
  let c7_i32_222 : BitVec 32 := 7#32
  let v300 : BitVec 1 := Scalar.cmpi .eq v287 c7_i32_222
  let c2_i32_223 : BitVec 32 := 2#32
  let c6_i32_220 : BitVec 32 := 6#32
  let v298 : BitVec 1 := Scalar.cmpi .eq v287 c6_i32_220
  let c6_i32_221 : BitVec 32 := 6#32
  let c5_i32_218 : BitVec 32 := 5#32
  let v296 : BitVec 1 := Scalar.cmpi .eq v287 c5_i32_218
  let c10_i32_219 : BitVec 32 := 10#32
  let c4_i32_216 : BitVec 32 := 4#32
  let v294 : BitVec 1 := Scalar.cmpi .eq v287 c4_i32_216
  let c14_i32_217 : BitVec 32 := 14#32
  let c3_i32_214 : BitVec 32 := 3#32
  let v292 : BitVec 1 := Scalar.cmpi .eq v287 c3_i32_214
  let c13_i32_215 : BitVec 32 := 13#32
  let c2_i32_212 : BitVec 32 := 2#32
  let v290 : BitVec 1 := Scalar.cmpi .eq v287 c2_i32_212
  let c9_i32_213 : BitVec 32 := 9#32
  let c1_i32_209 : BitVec 32 := 1#32
  let v288 : BitVec 1 := Scalar.cmpi .eq v287 c1_i32_209
  let c5_i32_210 : BitVec 32 := 5#32
  let c1_i32_211 : BitVec 32 := 1#32
  let v289 : BitVec 32 := Scalar.select v288 c5_i32_210 c1_i32_211
  let v291 : BitVec 32 := Scalar.select v290 c9_i32_213 v289
  let v293 : BitVec 32 := Scalar.select v292 c13_i32_215 v291
  let v295 : BitVec 32 := Scalar.select v294 c14_i32_217 v293
  let v297 : BitVec 32 := Scalar.select v296 c10_i32_219 v295
  let v299 : BitVec 32 := Scalar.select v298 c6_i32_221 v297
  let v301 : BitVec 32 := Scalar.select v300 c2_i32_223 v299
  let v303 : BitVec 32 := Scalar.select v302 c3_i32_225 v301
  let v305 : BitVec 32 := Scalar.select v304 c7_i32_227 v303
  let v307 : BitVec 32 := Scalar.select v306 c11_i32_229 v305
  let v309 : BitVec 32 := Scalar.select v308 c15_i32_231 v307
  let v311 : BitVec 32 := Scalar.select v310 c12_i32_233 v309
  let v313 : BitVec 32 := Scalar.select v312 c8_i32_235 v311
  let v315 : BitVec 32 := Scalar.select v314 c4_i32_237 v313
  let v317 : BitVec 32 := Scalar.select v316 c0_i32_239 v315
  let c256_i32_240 : BitVec 32 := 256#32
  let v318 : BitVec 32 := Scalar.muli v317 c256_i32_240
  let c2_i32_241 : BitVec 32 := 2#32
  let c0_i32_242 : BitVec 32 := 0#32
  let v319 : BitVec 1 := Scalar.cmpi .eq c2_i32_241 c0_i32_242
  let c1_i32_243 : BitVec 32 := 1#32
  let v320 : BitVec 32 := Scalar.select v319 c1_i32_243 c2_i32_241
  let v321 : BitVec 32 := Scalar.remsi v270 v320
  let c0_i32_245 : BitVec 32 := 0#32
  let v323 : BitVec 1 := Scalar.cmpi .slt v321 c0_i32_245
  let c0_i32_246 : BitVec 32 := 0#32
  let v324 : BitVec 1 := Scalar.cmpi .slt v320 c0_i32_246
  let v325 : BitVec 1 := Scalar.xori v323 v324
  let c0_i32_244 : BitVec 32 := 0#32
  let v322 : BitVec 1 := Scalar.cmpi .ne v321 c0_i32_244
  let v326 : BitVec 1 := Scalar.andi v325 v322
  let v327 : BitVec 32 := Scalar.addi v321 v320
  let v328 : BitVec 32 := Scalar.select v326 v327 v321
  let c128_i32_247 : BitVec 32 := 128#32
  let v329 : BitVec 32 := Scalar.muli v328 c128_i32_247
  let v330 : BitVec 32 := Scalar.addi v318 v329
  let v337 : Index := Scalar.indexCast v330
  let c0_252 : Index := 0#32
  ![v337.toNat, 0]
def k0_off14 (d0 : Dev nD) (c1_i32_253 : BitVec 32) : Fin 1 → Nat :=
  let c2_i32_267 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v339 : BitVec 32 := Scalar.subi v32 c1_i32_253
  let c16_i32_254 : BitVec 32 := 16#32
  let c0_i32_255 : BitVec 32 := 0#32
  let v340 : BitVec 1 := Scalar.cmpi .eq c16_i32_254 c0_i32_255
  let c1_i32_256 : BitVec 32 := 1#32
  let v341 : BitVec 32 := Scalar.select v340 c1_i32_256 c16_i32_254
  let v342 : BitVec 32 := Scalar.remsi v339 v341
  let c0_i32_258 : BitVec 32 := 0#32
  let v344 : BitVec 1 := Scalar.cmpi .slt v342 c0_i32_258
  let c0_i32_259 : BitVec 32 := 0#32
  let v345 : BitVec 1 := Scalar.cmpi .slt v341 c0_i32_259
  let v346 : BitVec 1 := Scalar.xori v344 v345
  let c0_i32_257 : BitVec 32 := 0#32
  let v343 : BitVec 1 := Scalar.cmpi .ne v342 c0_i32_257
  let v347 : BitVec 1 := Scalar.andi v346 v343
  let v348 : BitVec 32 := Scalar.addi v342 v341
  let v349 : BitVec 32 := Scalar.select v347 v348 v342
  let v361 : BitVec 32 := Scalar.muli c2_i32_267 v349
  ![v361.toNat]
def k0_off15 (d0 : Dev nD) (c1_i32_253 : BitVec 32) : Fin 3 → Nat :=
  let c2_i32_267 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v339 : BitVec 32 := Scalar.subi v32 c1_i32_253
  let c16_i32_254 : BitVec 32 := 16#32
  let c0_i32_255 : BitVec 32 := 0#32
  let v340 : BitVec 1 := Scalar.cmpi .eq c16_i32_254 c0_i32_255
  let c1_i32_256 : BitVec 32 := 1#32
  let v341 : BitVec 32 := Scalar.select v340 c1_i32_256 c16_i32_254
  let v342 : BitVec 32 := Scalar.remsi v339 v341
  let c0_i32_258 : BitVec 32 := 0#32
  let v344 : BitVec 1 := Scalar.cmpi .slt v342 c0_i32_258
  let c0_i32_259 : BitVec 32 := 0#32
  let v345 : BitVec 1 := Scalar.cmpi .slt v341 c0_i32_259
  let v346 : BitVec 1 := Scalar.xori v344 v345
  let c0_i32_257 : BitVec 32 := 0#32
  let v343 : BitVec 1 := Scalar.cmpi .ne v342 c0_i32_257
  let v347 : BitVec 1 := Scalar.andi v346 v343
  let v348 : BitVec 32 := Scalar.addi v342 v341
  let v349 : BitVec 32 := Scalar.select v347 v348 v342
  let v361 : BitVec 32 := Scalar.muli c2_i32_267 v349
  let c0_i32_270 : BitVec 32 := 0#32
  let c0_i32_271 : BitVec 32 := 0#32
  ![v361.toNat, 0, 0]
def k0_off16 (d0 : Dev nD) (c1_i32_260 : BitVec 32) : Fin 1 → Nat :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v350 : BitVec 32 := Scalar.addi v32 c1_i32_260
  let c16_i32_261 : BitVec 32 := 16#32
  let c0_i32_262 : BitVec 32 := 0#32
  let v351 : BitVec 1 := Scalar.cmpi .eq c16_i32_261 c0_i32_262
  let c1_i32_263 : BitVec 32 := 1#32
  let v352 : BitVec 32 := Scalar.select v351 c1_i32_263 c16_i32_261
  let v353 : BitVec 32 := Scalar.remsi v350 v352
  let c0_i32_265 : BitVec 32 := 0#32
  let v355 : BitVec 1 := Scalar.cmpi .slt v353 c0_i32_265
  let c0_i32_266 : BitVec 32 := 0#32
  let v356 : BitVec 1 := Scalar.cmpi .slt v352 c0_i32_266
  let v357 : BitVec 1 := Scalar.xori v355 v356
  let c0_i32_264 : BitVec 32 := 0#32
  let v354 : BitVec 1 := Scalar.cmpi .ne v353 c0_i32_264
  let v358 : BitVec 1 := Scalar.andi v357 v354
  let v359 : BitVec 32 := Scalar.addi v353 v352
  let v360 : BitVec 32 := Scalar.select v358 v359 v353
  let v370 : BitVec 32 := Scalar.muli c2_i32_274 v360
  let c1_i32_275 : BitVec 32 := 1#32
  let v371 : BitVec 32 := Scalar.addi v370 c1_i32_275
  ![v371.toNat]
def k0_off17 (d0 : Dev nD) (c1_i32_260 : BitVec 32) : Fin 3 → Nat :=
  let c2_i32_274 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v350 : BitVec 32 := Scalar.addi v32 c1_i32_260
  let c16_i32_261 : BitVec 32 := 16#32
  let c0_i32_262 : BitVec 32 := 0#32
  let v351 : BitVec 1 := Scalar.cmpi .eq c16_i32_261 c0_i32_262
  let c1_i32_263 : BitVec 32 := 1#32
  let v352 : BitVec 32 := Scalar.select v351 c1_i32_263 c16_i32_261
  let v353 : BitVec 32 := Scalar.remsi v350 v352
  let c0_i32_265 : BitVec 32 := 0#32
  let v355 : BitVec 1 := Scalar.cmpi .slt v353 c0_i32_265
  let c0_i32_266 : BitVec 32 := 0#32
  let v356 : BitVec 1 := Scalar.cmpi .slt v352 c0_i32_266
  let v357 : BitVec 1 := Scalar.xori v355 v356
  let c0_i32_264 : BitVec 32 := 0#32
  let v354 : BitVec 1 := Scalar.cmpi .ne v353 c0_i32_264
  let v358 : BitVec 1 := Scalar.andi v357 v354
  let v359 : BitVec 32 := Scalar.addi v353 v352
  let v360 : BitVec 32 := Scalar.select v358 v359 v353
  let v370 : BitVec 32 := Scalar.muli c2_i32_274 v360
  let c1_i32_275 : BitVec 32 := 1#32
  let v371 : BitVec 32 := Scalar.addi v370 c1_i32_275
  let c0_i32_278 : BitVec 32 := 0#32
  let c0_i32_279 : BitVec 32 := 0#32
  ![v371.toNat, 0, 0]
def k0_off18 (d0 : Dev nD) (c1_i32_253 : BitVec 32) : Fin 1 → Nat :=
  let c2_i32_282 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v339 : BitVec 32 := Scalar.subi v32 c1_i32_253
  let c16_i32_254 : BitVec 32 := 16#32
  let c0_i32_255 : BitVec 32 := 0#32
  let v340 : BitVec 1 := Scalar.cmpi .eq c16_i32_254 c0_i32_255
  let c1_i32_256 : BitVec 32 := 1#32
  let v341 : BitVec 32 := Scalar.select v340 c1_i32_256 c16_i32_254
  let v342 : BitVec 32 := Scalar.remsi v339 v341
  let c0_i32_258 : BitVec 32 := 0#32
  let v344 : BitVec 1 := Scalar.cmpi .slt v342 c0_i32_258
  let c0_i32_259 : BitVec 32 := 0#32
  let v345 : BitVec 1 := Scalar.cmpi .slt v341 c0_i32_259
  let v346 : BitVec 1 := Scalar.xori v344 v345
  let c0_i32_257 : BitVec 32 := 0#32
  let v343 : BitVec 1 := Scalar.cmpi .ne v342 c0_i32_257
  let v347 : BitVec 1 := Scalar.andi v346 v343
  let v348 : BitVec 32 := Scalar.addi v342 v341
  let v349 : BitVec 32 := Scalar.select v347 v348 v342
  let v380 : BitVec 32 := Scalar.muli c2_i32_282 v349
  let c1_i32_283 : BitVec 32 := 1#32
  let v381 : BitVec 32 := Scalar.addi v380 c1_i32_283
  ![v381.toNat]
def k0_off19 (d0 : Dev nD) (c1_i32_253 : BitVec 32) : Fin 3 → Nat :=
  let c2_i32_282 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v339 : BitVec 32 := Scalar.subi v32 c1_i32_253
  let c16_i32_254 : BitVec 32 := 16#32
  let c0_i32_255 : BitVec 32 := 0#32
  let v340 : BitVec 1 := Scalar.cmpi .eq c16_i32_254 c0_i32_255
  let c1_i32_256 : BitVec 32 := 1#32
  let v341 : BitVec 32 := Scalar.select v340 c1_i32_256 c16_i32_254
  let v342 : BitVec 32 := Scalar.remsi v339 v341
  let c0_i32_258 : BitVec 32 := 0#32
  let v344 : BitVec 1 := Scalar.cmpi .slt v342 c0_i32_258
  let c0_i32_259 : BitVec 32 := 0#32
  let v345 : BitVec 1 := Scalar.cmpi .slt v341 c0_i32_259
  let v346 : BitVec 1 := Scalar.xori v344 v345
  let c0_i32_257 : BitVec 32 := 0#32
  let v343 : BitVec 1 := Scalar.cmpi .ne v342 c0_i32_257
  let v347 : BitVec 1 := Scalar.andi v346 v343
  let v348 : BitVec 32 := Scalar.addi v342 v341
  let v349 : BitVec 32 := Scalar.select v347 v348 v342
  let v380 : BitVec 32 := Scalar.muli c2_i32_282 v349
  let c1_i32_283 : BitVec 32 := 1#32
  let v381 : BitVec 32 := Scalar.addi v380 c1_i32_283
  let c0_i32_286 : BitVec 32 := 0#32
  let c0_i32_287 : BitVec 32 := 0#32
  ![v381.toNat, 0, 0]
def k0_off20 (d0 : Dev nD) (c1_i32_260 : BitVec 32) : Fin 1 → Nat :=
  let c2_i32_290 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v350 : BitVec 32 := Scalar.addi v32 c1_i32_260
  let c16_i32_261 : BitVec 32 := 16#32
  let c0_i32_262 : BitVec 32 := 0#32
  let v351 : BitVec 1 := Scalar.cmpi .eq c16_i32_261 c0_i32_262
  let c1_i32_263 : BitVec 32 := 1#32
  let v352 : BitVec 32 := Scalar.select v351 c1_i32_263 c16_i32_261
  let v353 : BitVec 32 := Scalar.remsi v350 v352
  let c0_i32_265 : BitVec 32 := 0#32
  let v355 : BitVec 1 := Scalar.cmpi .slt v353 c0_i32_265
  let c0_i32_266 : BitVec 32 := 0#32
  let v356 : BitVec 1 := Scalar.cmpi .slt v352 c0_i32_266
  let v357 : BitVec 1 := Scalar.xori v355 v356
  let c0_i32_264 : BitVec 32 := 0#32
  let v354 : BitVec 1 := Scalar.cmpi .ne v353 c0_i32_264
  let v358 : BitVec 1 := Scalar.andi v357 v354
  let v359 : BitVec 32 := Scalar.addi v353 v352
  let v360 : BitVec 32 := Scalar.select v358 v359 v353
  let v390 : BitVec 32 := Scalar.muli c2_i32_290 v360
  ![v390.toNat]
def k0_off21 (d0 : Dev nD) (c1_i32_260 : BitVec 32) : Fin 3 → Nat :=
  let c2_i32_290 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v350 : BitVec 32 := Scalar.addi v32 c1_i32_260
  let c16_i32_261 : BitVec 32 := 16#32
  let c0_i32_262 : BitVec 32 := 0#32
  let v351 : BitVec 1 := Scalar.cmpi .eq c16_i32_261 c0_i32_262
  let c1_i32_263 : BitVec 32 := 1#32
  let v352 : BitVec 32 := Scalar.select v351 c1_i32_263 c16_i32_261
  let v353 : BitVec 32 := Scalar.remsi v350 v352
  let c0_i32_265 : BitVec 32 := 0#32
  let v355 : BitVec 1 := Scalar.cmpi .slt v353 c0_i32_265
  let c0_i32_266 : BitVec 32 := 0#32
  let v356 : BitVec 1 := Scalar.cmpi .slt v352 c0_i32_266
  let v357 : BitVec 1 := Scalar.xori v355 v356
  let c0_i32_264 : BitVec 32 := 0#32
  let v354 : BitVec 1 := Scalar.cmpi .ne v353 c0_i32_264
  let v358 : BitVec 1 := Scalar.andi v357 v354
  let v359 : BitVec 32 := Scalar.addi v353 v352
  let v360 : BitVec 32 := Scalar.select v358 v359 v353
  let v390 : BitVec 32 := Scalar.muli c2_i32_290 v360
  let c0_i32_293 : BitVec 32 := 0#32
  let c0_i32_294 : BitVec 32 := 0#32
  ![v390.toNat, 0, 0]
def k0_dev7 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_339 : BitVec 32 := 1#32
  let v453 : BitVec 32 := Scalar.muli v73 c1_i32_339
  let v454 : BitVec 32 := Scalar.addi c0_i32_340 v453
  v454.toNat
def k0_dev8 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_345 : BitVec 32 := 1#32
  let v463 : BitVec 32 := Scalar.muli v114 c1_i32_345
  let v464 : BitVec 32 := Scalar.addi c0_i32_346 v463
  v464.toNat
def k0_dev9 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_351 : BitVec 32 := 1#32
  let v473 : BitVec 32 := Scalar.muli v73 c1_i32_351
  let v474 : BitVec 32 := Scalar.addi c0_i32_352 v473
  v474.toNat
def k0_dev10 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_357 : BitVec 32 := 1#32
  let v483 : BitVec 32 := Scalar.muli v114 c1_i32_357
  let v484 : BitVec 32 := Scalar.addi c0_i32_358 v483
  v484.toNat
def k0_off22 (d0 : Dev nD) (c2_i32_363 : BitVec 32) : Fin 3 → Nat :=
  let c2_i32_371 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v493 : BitVec 32 := Scalar.subi v32 c2_i32_363
  let c1_i32_364 : BitVec 32 := 1#32
  let v494 : BitVec 32 := Scalar.addi v493 c1_i32_364
  let c16_i32_365 : BitVec 32 := 16#32
  let c0_i32_366 : BitVec 32 := 0#32
  let v495 : BitVec 1 := Scalar.cmpi .eq c16_i32_365 c0_i32_366
  let c1_i32_367 : BitVec 32 := 1#32
  let v496 : BitVec 32 := Scalar.select v495 c1_i32_367 c16_i32_365
  let v497 : BitVec 32 := Scalar.remsi v494 v496
  let c0_i32_369 : BitVec 32 := 0#32
  let v499 : BitVec 1 := Scalar.cmpi .slt v497 c0_i32_369
  let c0_i32_370 : BitVec 32 := 0#32
  let v500 : BitVec 1 := Scalar.cmpi .slt v496 c0_i32_370
  let v501 : BitVec 1 := Scalar.xori v499 v500
  let c0_i32_368 : BitVec 32 := 0#32
  let v498 : BitVec 1 := Scalar.cmpi .ne v497 c0_i32_368
  let v502 : BitVec 1 := Scalar.andi v501 v498
  let v503 : BitVec 32 := Scalar.addi v497 v496
  let v504 : BitVec 32 := Scalar.select v502 v503 v497
  let v505 : BitVec 32 := Scalar.muli c2_i32_371 v504
  let v566 : Index := Scalar.indexCast v505
  let c0_418 : Index := 0#32
  let c0_419 : Index := 0#32
  ![v566.toNat, 0, 0]
def k0_off23 (d0 : Dev nD) (c2_i32_363 : BitVec 32) : Fin 2 → Nat :=
  let c2_i32_371 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v493 : BitVec 32 := Scalar.subi v32 c2_i32_363
  let c1_i32_364 : BitVec 32 := 1#32
  let v494 : BitVec 32 := Scalar.addi v493 c1_i32_364
  let c16_i32_365 : BitVec 32 := 16#32
  let c0_i32_366 : BitVec 32 := 0#32
  let v495 : BitVec 1 := Scalar.cmpi .eq c16_i32_365 c0_i32_366
  let c1_i32_367 : BitVec 32 := 1#32
  let v496 : BitVec 32 := Scalar.select v495 c1_i32_367 c16_i32_365
  let v497 : BitVec 32 := Scalar.remsi v494 v496
  let c0_i32_369 : BitVec 32 := 0#32
  let v499 : BitVec 1 := Scalar.cmpi .slt v497 c0_i32_369
  let c0_i32_370 : BitVec 32 := 0#32
  let v500 : BitVec 1 := Scalar.cmpi .slt v496 c0_i32_370
  let v501 : BitVec 1 := Scalar.xori v499 v500
  let c0_i32_368 : BitVec 32 := 0#32
  let v498 : BitVec 1 := Scalar.cmpi .ne v497 c0_i32_368
  let v502 : BitVec 1 := Scalar.andi v501 v498
  let v503 : BitVec 32 := Scalar.addi v497 v496
  let v504 : BitVec 32 := Scalar.select v502 v503 v497
  let v505 : BitVec 32 := Scalar.muli c2_i32_371 v504
  let c0_i32_373 : BitVec 32 := 0#32
  let v507 : BitVec 1 := Scalar.cmpi .sgt v505 c0_i32_373
  let v508 : BitVec 32 := Scalar.extui v507
  let c0_i32_374 : BitVec 32 := 0#32
  let v509 : BitVec 1 := Scalar.cmpi .slt v505 c0_i32_374
  let v510 : BitVec 32 := Scalar.extui v509
  let v511 : BitVec 32 := Scalar.subi v508 v510
  let c2_i32_372 : BitVec 32 := 2#32
  let c0_i32_375 : BitVec 32 := 0#32
  let v512 : BitVec 1 := Scalar.cmpi .sgt c2_i32_372 c0_i32_375
  let v513 : BitVec 32 := Scalar.extui v512
  let c0_i32_376 : BitVec 32 := 0#32
  let v514 : BitVec 1 := Scalar.cmpi .slt c2_i32_372 c0_i32_376
  let v515 : BitVec 32 := Scalar.extui v514
  let v516 : BitVec 32 := Scalar.subi v513 v515
  let v517 : BitVec 1 := Scalar.cmpi .ne v511 v516
  let v518 : BitVec 32 := Scalar.remsi v505 c2_i32_372
  let c0_i32_377 : BitVec 32 := 0#32
  let v519 : BitVec 1 := Scalar.cmpi .ne v518 c0_i32_377
  let v520 : BitVec 1 := Scalar.andi v517 v519
  let v506 : BitVec 32 := Scalar.divsi v505 c2_i32_372
  let c1_i32_378 : BitVec 32 := 1#32
  let v521 : BitVec 32 := Scalar.subi v506 c1_i32_378
  let v522 : BitVec 32 := Scalar.select v520 v521 v506
  let c15_i32_408 : BitVec 32 := 15#32
  let v551 : BitVec 1 := Scalar.cmpi .eq v522 c15_i32_408
  let c0_i32_409 : BitVec 32 := 0#32
  let c14_i32_406 : BitVec 32 := 14#32
  let v549 : BitVec 1 := Scalar.cmpi .eq v522 c14_i32_406
  let c4_i32_407 : BitVec 32 := 4#32
  let c13_i32_404 : BitVec 32 := 13#32
  let v547 : BitVec 1 := Scalar.cmpi .eq v522 c13_i32_404
  let c8_i32_405 : BitVec 32 := 8#32
  let c12_i32_402 : BitVec 32 := 12#32
  let v545 : BitVec 1 := Scalar.cmpi .eq v522 c12_i32_402
  let c12_i32_403 : BitVec 32 := 12#32
  let c11_i32_400 : BitVec 32 := 11#32
  let v543 : BitVec 1 := Scalar.cmpi .eq v522 c11_i32_400
  let c15_i32_401 : BitVec 32 := 15#32
  let c10_i32_398 : BitVec 32 := 10#32
  let v541 : BitVec 1 := Scalar.cmpi .eq v522 c10_i32_398
  let c11_i32_399 : BitVec 32 := 11#32
  let c9_i32_396 : BitVec 32 := 9#32
  let v539 : BitVec 1 := Scalar.cmpi .eq v522 c9_i32_396
  let c7_i32_397 : BitVec 32 := 7#32
  let c8_i32_394 : BitVec 32 := 8#32
  let v537 : BitVec 1 := Scalar.cmpi .eq v522 c8_i32_394
  let c3_i32_395 : BitVec 32 := 3#32
  let c7_i32_392 : BitVec 32 := 7#32
  let v535 : BitVec 1 := Scalar.cmpi .eq v522 c7_i32_392
  let c2_i32_393 : BitVec 32 := 2#32
  let c6_i32_390 : BitVec 32 := 6#32
  let v533 : BitVec 1 := Scalar.cmpi .eq v522 c6_i32_390
  let c6_i32_391 : BitVec 32 := 6#32
  let c5_i32_388 : BitVec 32 := 5#32
  let v531 : BitVec 1 := Scalar.cmpi .eq v522 c5_i32_388
  let c10_i32_389 : BitVec 32 := 10#32
  let c4_i32_386 : BitVec 32 := 4#32
  let v529 : BitVec 1 := Scalar.cmpi .eq v522 c4_i32_386
  let c14_i32_387 : BitVec 32 := 14#32
  let c3_i32_384 : BitVec 32 := 3#32
  let v527 : BitVec 1 := Scalar.cmpi .eq v522 c3_i32_384
  let c13_i32_385 : BitVec 32 := 13#32
  let c2_i32_382 : BitVec 32 := 2#32
  let v525 : BitVec 1 := Scalar.cmpi .eq v522 c2_i32_382
  let c9_i32_383 : BitVec 32 := 9#32
  let c1_i32_379 : BitVec 32 := 1#32
  let v523 : BitVec 1 := Scalar.cmpi .eq v522 c1_i32_379
  let c5_i32_380 : BitVec 32 := 5#32
  let c1_i32_381 : BitVec 32 := 1#32
  let v524 : BitVec 32 := Scalar.select v523 c5_i32_380 c1_i32_381
  let v526 : BitVec 32 := Scalar.select v525 c9_i32_383 v524
  let v528 : BitVec 32 := Scalar.select v527 c13_i32_385 v526
  let v530 : BitVec 32 := Scalar.select v529 c14_i32_387 v528
  let v532 : BitVec 32 := Scalar.select v531 c10_i32_389 v530
  let v534 : BitVec 32 := Scalar.select v533 c6_i32_391 v532
  let v536 : BitVec 32 := Scalar.select v535 c2_i32_393 v534
  let v538 : BitVec 32 := Scalar.select v537 c3_i32_395 v536
  let v540 : BitVec 32 := Scalar.select v539 c7_i32_397 v538
  let v542 : BitVec 32 := Scalar.select v541 c11_i32_399 v540
  let v544 : BitVec 32 := Scalar.select v543 c15_i32_401 v542
  let v546 : BitVec 32 := Scalar.select v545 c12_i32_403 v544
  let v548 : BitVec 32 := Scalar.select v547 c8_i32_405 v546
  let v550 : BitVec 32 := Scalar.select v549 c4_i32_407 v548
  let v552 : BitVec 32 := Scalar.select v551 c0_i32_409 v550
  let c256_i32_410 : BitVec 32 := 256#32
  let v553 : BitVec 32 := Scalar.muli v552 c256_i32_410
  let c2_i32_411 : BitVec 32 := 2#32
  let c0_i32_412 : BitVec 32 := 0#32
  let v554 : BitVec 1 := Scalar.cmpi .eq c2_i32_411 c0_i32_412
  let c1_i32_413 : BitVec 32 := 1#32
  let v555 : BitVec 32 := Scalar.select v554 c1_i32_413 c2_i32_411
  let v556 : BitVec 32 := Scalar.remsi v505 v555
  let c0_i32_415 : BitVec 32 := 0#32
  let v558 : BitVec 1 := Scalar.cmpi .slt v556 c0_i32_415
  let c0_i32_416 : BitVec 32 := 0#32
  let v559 : BitVec 1 := Scalar.cmpi .slt v555 c0_i32_416
  let v560 : BitVec 1 := Scalar.xori v558 v559
  let c0_i32_414 : BitVec 32 := 0#32
  let v557 : BitVec 1 := Scalar.cmpi .ne v556 c0_i32_414
  let v561 : BitVec 1 := Scalar.andi v560 v557
  let v562 : BitVec 32 := Scalar.addi v556 v555
  let v563 : BitVec 32 := Scalar.select v561 v562 v556
  let c128_i32_417 : BitVec 32 := 128#32
  let v564 : BitVec 32 := Scalar.muli v563 c128_i32_417
  let v565 : BitVec 32 := Scalar.addi v553 v564
  let v572 : Index := Scalar.indexCast v565
  let c0_422 : Index := 0#32
  ![v572.toNat, 0]
def k0_off24 (d0 : Dev nD) (c2_i32_363 : BitVec 32) : Fin 3 → Nat :=
  let c2_i32_423 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v493 : BitVec 32 := Scalar.subi v32 c2_i32_363
  let c1_i32_364 : BitVec 32 := 1#32
  let v494 : BitVec 32 := Scalar.addi v493 c1_i32_364
  let c16_i32_365 : BitVec 32 := 16#32
  let c0_i32_366 : BitVec 32 := 0#32
  let v495 : BitVec 1 := Scalar.cmpi .eq c16_i32_365 c0_i32_366
  let c1_i32_367 : BitVec 32 := 1#32
  let v496 : BitVec 32 := Scalar.select v495 c1_i32_367 c16_i32_365
  let v497 : BitVec 32 := Scalar.remsi v494 v496
  let c0_i32_369 : BitVec 32 := 0#32
  let v499 : BitVec 1 := Scalar.cmpi .slt v497 c0_i32_369
  let c0_i32_370 : BitVec 32 := 0#32
  let v500 : BitVec 1 := Scalar.cmpi .slt v496 c0_i32_370
  let v501 : BitVec 1 := Scalar.xori v499 v500
  let c0_i32_368 : BitVec 32 := 0#32
  let v498 : BitVec 1 := Scalar.cmpi .ne v497 c0_i32_368
  let v502 : BitVec 1 := Scalar.andi v501 v498
  let v503 : BitVec 32 := Scalar.addi v497 v496
  let v504 : BitVec 32 := Scalar.select v502 v503 v497
  let v574 : BitVec 32 := Scalar.muli c2_i32_423 v504
  let c1_i32_424 : BitVec 32 := 1#32
  let v575 : BitVec 32 := Scalar.addi v574 c1_i32_424
  let v636 : Index := Scalar.indexCast v575
  let c0_471 : Index := 0#32
  let c0_472 : Index := 0#32
  ![v636.toNat, 0, 0]
def k0_off25 (d0 : Dev nD) (c2_i32_363 : BitVec 32) : Fin 2 → Nat :=
  let c2_i32_423 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v493 : BitVec 32 := Scalar.subi v32 c2_i32_363
  let c1_i32_364 : BitVec 32 := 1#32
  let v494 : BitVec 32 := Scalar.addi v493 c1_i32_364
  let c16_i32_365 : BitVec 32 := 16#32
  let c0_i32_366 : BitVec 32 := 0#32
  let v495 : BitVec 1 := Scalar.cmpi .eq c16_i32_365 c0_i32_366
  let c1_i32_367 : BitVec 32 := 1#32
  let v496 : BitVec 32 := Scalar.select v495 c1_i32_367 c16_i32_365
  let v497 : BitVec 32 := Scalar.remsi v494 v496
  let c0_i32_369 : BitVec 32 := 0#32
  let v499 : BitVec 1 := Scalar.cmpi .slt v497 c0_i32_369
  let c0_i32_370 : BitVec 32 := 0#32
  let v500 : BitVec 1 := Scalar.cmpi .slt v496 c0_i32_370
  let v501 : BitVec 1 := Scalar.xori v499 v500
  let c0_i32_368 : BitVec 32 := 0#32
  let v498 : BitVec 1 := Scalar.cmpi .ne v497 c0_i32_368
  let v502 : BitVec 1 := Scalar.andi v501 v498
  let v503 : BitVec 32 := Scalar.addi v497 v496
  let v504 : BitVec 32 := Scalar.select v502 v503 v497
  let v574 : BitVec 32 := Scalar.muli c2_i32_423 v504
  let c1_i32_424 : BitVec 32 := 1#32
  let v575 : BitVec 32 := Scalar.addi v574 c1_i32_424
  let c0_i32_426 : BitVec 32 := 0#32
  let v577 : BitVec 1 := Scalar.cmpi .sgt v575 c0_i32_426
  let v578 : BitVec 32 := Scalar.extui v577
  let c0_i32_427 : BitVec 32 := 0#32
  let v579 : BitVec 1 := Scalar.cmpi .slt v575 c0_i32_427
  let v580 : BitVec 32 := Scalar.extui v579
  let v581 : BitVec 32 := Scalar.subi v578 v580
  let c2_i32_425 : BitVec 32 := 2#32
  let c0_i32_428 : BitVec 32 := 0#32
  let v582 : BitVec 1 := Scalar.cmpi .sgt c2_i32_425 c0_i32_428
  let v583 : BitVec 32 := Scalar.extui v582
  let c0_i32_429 : BitVec 32 := 0#32
  let v584 : BitVec 1 := Scalar.cmpi .slt c2_i32_425 c0_i32_429
  let v585 : BitVec 32 := Scalar.extui v584
  let v586 : BitVec 32 := Scalar.subi v583 v585
  let v587 : BitVec 1 := Scalar.cmpi .ne v581 v586
  let v588 : BitVec 32 := Scalar.remsi v575 c2_i32_425
  let c0_i32_430 : BitVec 32 := 0#32
  let v589 : BitVec 1 := Scalar.cmpi .ne v588 c0_i32_430
  let v590 : BitVec 1 := Scalar.andi v587 v589
  let v576 : BitVec 32 := Scalar.divsi v575 c2_i32_425
  let c1_i32_431 : BitVec 32 := 1#32
  let v591 : BitVec 32 := Scalar.subi v576 c1_i32_431
  let v592 : BitVec 32 := Scalar.select v590 v591 v576
  let c15_i32_461 : BitVec 32 := 15#32
  let v621 : BitVec 1 := Scalar.cmpi .eq v592 c15_i32_461
  let c0_i32_462 : BitVec 32 := 0#32
  let c14_i32_459 : BitVec 32 := 14#32
  let v619 : BitVec 1 := Scalar.cmpi .eq v592 c14_i32_459
  let c4_i32_460 : BitVec 32 := 4#32
  let c13_i32_457 : BitVec 32 := 13#32
  let v617 : BitVec 1 := Scalar.cmpi .eq v592 c13_i32_457
  let c8_i32_458 : BitVec 32 := 8#32
  let c12_i32_455 : BitVec 32 := 12#32
  let v615 : BitVec 1 := Scalar.cmpi .eq v592 c12_i32_455
  let c12_i32_456 : BitVec 32 := 12#32
  let c11_i32_453 : BitVec 32 := 11#32
  let v613 : BitVec 1 := Scalar.cmpi .eq v592 c11_i32_453
  let c15_i32_454 : BitVec 32 := 15#32
  let c10_i32_451 : BitVec 32 := 10#32
  let v611 : BitVec 1 := Scalar.cmpi .eq v592 c10_i32_451
  let c11_i32_452 : BitVec 32 := 11#32
  let c9_i32_449 : BitVec 32 := 9#32
  let v609 : BitVec 1 := Scalar.cmpi .eq v592 c9_i32_449
  let c7_i32_450 : BitVec 32 := 7#32
  let c8_i32_447 : BitVec 32 := 8#32
  let v607 : BitVec 1 := Scalar.cmpi .eq v592 c8_i32_447
  let c3_i32_448 : BitVec 32 := 3#32
  let c7_i32_445 : BitVec 32 := 7#32
  let v605 : BitVec 1 := Scalar.cmpi .eq v592 c7_i32_445
  let c2_i32_446 : BitVec 32 := 2#32
  let c6_i32_443 : BitVec 32 := 6#32
  let v603 : BitVec 1 := Scalar.cmpi .eq v592 c6_i32_443
  let c6_i32_444 : BitVec 32 := 6#32
  let c5_i32_441 : BitVec 32 := 5#32
  let v601 : BitVec 1 := Scalar.cmpi .eq v592 c5_i32_441
  let c10_i32_442 : BitVec 32 := 10#32
  let c4_i32_439 : BitVec 32 := 4#32
  let v599 : BitVec 1 := Scalar.cmpi .eq v592 c4_i32_439
  let c14_i32_440 : BitVec 32 := 14#32
  let c3_i32_437 : BitVec 32 := 3#32
  let v597 : BitVec 1 := Scalar.cmpi .eq v592 c3_i32_437
  let c13_i32_438 : BitVec 32 := 13#32
  let c2_i32_435 : BitVec 32 := 2#32
  let v595 : BitVec 1 := Scalar.cmpi .eq v592 c2_i32_435
  let c9_i32_436 : BitVec 32 := 9#32
  let c1_i32_432 : BitVec 32 := 1#32
  let v593 : BitVec 1 := Scalar.cmpi .eq v592 c1_i32_432
  let c5_i32_433 : BitVec 32 := 5#32
  let c1_i32_434 : BitVec 32 := 1#32
  let v594 : BitVec 32 := Scalar.select v593 c5_i32_433 c1_i32_434
  let v596 : BitVec 32 := Scalar.select v595 c9_i32_436 v594
  let v598 : BitVec 32 := Scalar.select v597 c13_i32_438 v596
  let v600 : BitVec 32 := Scalar.select v599 c14_i32_440 v598
  let v602 : BitVec 32 := Scalar.select v601 c10_i32_442 v600
  let v604 : BitVec 32 := Scalar.select v603 c6_i32_444 v602
  let v606 : BitVec 32 := Scalar.select v605 c2_i32_446 v604
  let v608 : BitVec 32 := Scalar.select v607 c3_i32_448 v606
  let v610 : BitVec 32 := Scalar.select v609 c7_i32_450 v608
  let v612 : BitVec 32 := Scalar.select v611 c11_i32_452 v610
  let v614 : BitVec 32 := Scalar.select v613 c15_i32_454 v612
  let v616 : BitVec 32 := Scalar.select v615 c12_i32_456 v614
  let v618 : BitVec 32 := Scalar.select v617 c8_i32_458 v616
  let v620 : BitVec 32 := Scalar.select v619 c4_i32_460 v618
  let v622 : BitVec 32 := Scalar.select v621 c0_i32_462 v620
  let c256_i32_463 : BitVec 32 := 256#32
  let v623 : BitVec 32 := Scalar.muli v622 c256_i32_463
  let c2_i32_464 : BitVec 32 := 2#32
  let c0_i32_465 : BitVec 32 := 0#32
  let v624 : BitVec 1 := Scalar.cmpi .eq c2_i32_464 c0_i32_465
  let c1_i32_466 : BitVec 32 := 1#32
  let v625 : BitVec 32 := Scalar.select v624 c1_i32_466 c2_i32_464
  let v626 : BitVec 32 := Scalar.remsi v575 v625
  let c0_i32_468 : BitVec 32 := 0#32
  let v628 : BitVec 1 := Scalar.cmpi .slt v626 c0_i32_468
  let c0_i32_469 : BitVec 32 := 0#32
  let v629 : BitVec 1 := Scalar.cmpi .slt v625 c0_i32_469
  let v630 : BitVec 1 := Scalar.xori v628 v629
  let c0_i32_467 : BitVec 32 := 0#32
  let v627 : BitVec 1 := Scalar.cmpi .ne v626 c0_i32_467
  let v631 : BitVec 1 := Scalar.andi v630 v627
  let v632 : BitVec 32 := Scalar.addi v626 v625
  let v633 : BitVec 32 := Scalar.select v631 v632 v626
  let c128_i32_470 : BitVec 32 := 128#32
  let v634 : BitVec 32 := Scalar.muli v633 c128_i32_470
  let v635 : BitVec 32 := Scalar.addi v623 v634
  let v642 : Index := Scalar.indexCast v635
  let c0_475 : Index := 0#32
  ![v642.toNat, 0]
def k0_off26 (d0 : Dev nD) (c2_i32_476 : BitVec 32) : Fin 3 → Nat :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v644 : BitVec 32 := Scalar.addi v32 c2_i32_476
  let c1_i32_477 : BitVec 32 := 1#32
  let v645 : BitVec 32 := Scalar.subi v644 c1_i32_477
  let c16_i32_478 : BitVec 32 := 16#32
  let c0_i32_479 : BitVec 32 := 0#32
  let v646 : BitVec 1 := Scalar.cmpi .eq c16_i32_478 c0_i32_479
  let c1_i32_480 : BitVec 32 := 1#32
  let v647 : BitVec 32 := Scalar.select v646 c1_i32_480 c16_i32_478
  let v648 : BitVec 32 := Scalar.remsi v645 v647
  let c0_i32_482 : BitVec 32 := 0#32
  let v650 : BitVec 1 := Scalar.cmpi .slt v648 c0_i32_482
  let c0_i32_483 : BitVec 32 := 0#32
  let v651 : BitVec 1 := Scalar.cmpi .slt v647 c0_i32_483
  let v652 : BitVec 1 := Scalar.xori v650 v651
  let c0_i32_481 : BitVec 32 := 0#32
  let v649 : BitVec 1 := Scalar.cmpi .ne v648 c0_i32_481
  let v653 : BitVec 1 := Scalar.andi v652 v649
  let v654 : BitVec 32 := Scalar.addi v648 v647
  let v655 : BitVec 32 := Scalar.select v653 v654 v648
  let v656 : BitVec 32 := Scalar.muli c2_i32_484 v655
  let v717 : Index := Scalar.indexCast v656
  let c0_531 : Index := 0#32
  let c0_532 : Index := 0#32
  ![v717.toNat, 0, 0]
def k0_off27 (d0 : Dev nD) (c2_i32_476 : BitVec 32) : Fin 2 → Nat :=
  let c2_i32_484 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v644 : BitVec 32 := Scalar.addi v32 c2_i32_476
  let c1_i32_477 : BitVec 32 := 1#32
  let v645 : BitVec 32 := Scalar.subi v644 c1_i32_477
  let c16_i32_478 : BitVec 32 := 16#32
  let c0_i32_479 : BitVec 32 := 0#32
  let v646 : BitVec 1 := Scalar.cmpi .eq c16_i32_478 c0_i32_479
  let c1_i32_480 : BitVec 32 := 1#32
  let v647 : BitVec 32 := Scalar.select v646 c1_i32_480 c16_i32_478
  let v648 : BitVec 32 := Scalar.remsi v645 v647
  let c0_i32_482 : BitVec 32 := 0#32
  let v650 : BitVec 1 := Scalar.cmpi .slt v648 c0_i32_482
  let c0_i32_483 : BitVec 32 := 0#32
  let v651 : BitVec 1 := Scalar.cmpi .slt v647 c0_i32_483
  let v652 : BitVec 1 := Scalar.xori v650 v651
  let c0_i32_481 : BitVec 32 := 0#32
  let v649 : BitVec 1 := Scalar.cmpi .ne v648 c0_i32_481
  let v653 : BitVec 1 := Scalar.andi v652 v649
  let v654 : BitVec 32 := Scalar.addi v648 v647
  let v655 : BitVec 32 := Scalar.select v653 v654 v648
  let v656 : BitVec 32 := Scalar.muli c2_i32_484 v655
  let c0_i32_486 : BitVec 32 := 0#32
  let v658 : BitVec 1 := Scalar.cmpi .sgt v656 c0_i32_486
  let v659 : BitVec 32 := Scalar.extui v658
  let c0_i32_487 : BitVec 32 := 0#32
  let v660 : BitVec 1 := Scalar.cmpi .slt v656 c0_i32_487
  let v661 : BitVec 32 := Scalar.extui v660
  let v662 : BitVec 32 := Scalar.subi v659 v661
  let c2_i32_485 : BitVec 32 := 2#32
  let c0_i32_488 : BitVec 32 := 0#32
  let v663 : BitVec 1 := Scalar.cmpi .sgt c2_i32_485 c0_i32_488
  let v664 : BitVec 32 := Scalar.extui v663
  let c0_i32_489 : BitVec 32 := 0#32
  let v665 : BitVec 1 := Scalar.cmpi .slt c2_i32_485 c0_i32_489
  let v666 : BitVec 32 := Scalar.extui v665
  let v667 : BitVec 32 := Scalar.subi v664 v666
  let v668 : BitVec 1 := Scalar.cmpi .ne v662 v667
  let v669 : BitVec 32 := Scalar.remsi v656 c2_i32_485
  let c0_i32_490 : BitVec 32 := 0#32
  let v670 : BitVec 1 := Scalar.cmpi .ne v669 c0_i32_490
  let v671 : BitVec 1 := Scalar.andi v668 v670
  let v657 : BitVec 32 := Scalar.divsi v656 c2_i32_485
  let c1_i32_491 : BitVec 32 := 1#32
  let v672 : BitVec 32 := Scalar.subi v657 c1_i32_491
  let v673 : BitVec 32 := Scalar.select v671 v672 v657
  let c15_i32_521 : BitVec 32 := 15#32
  let v702 : BitVec 1 := Scalar.cmpi .eq v673 c15_i32_521
  let c0_i32_522 : BitVec 32 := 0#32
  let c14_i32_519 : BitVec 32 := 14#32
  let v700 : BitVec 1 := Scalar.cmpi .eq v673 c14_i32_519
  let c4_i32_520 : BitVec 32 := 4#32
  let c13_i32_517 : BitVec 32 := 13#32
  let v698 : BitVec 1 := Scalar.cmpi .eq v673 c13_i32_517
  let c8_i32_518 : BitVec 32 := 8#32
  let c12_i32_515 : BitVec 32 := 12#32
  let v696 : BitVec 1 := Scalar.cmpi .eq v673 c12_i32_515
  let c12_i32_516 : BitVec 32 := 12#32
  let c11_i32_513 : BitVec 32 := 11#32
  let v694 : BitVec 1 := Scalar.cmpi .eq v673 c11_i32_513
  let c15_i32_514 : BitVec 32 := 15#32
  let c10_i32_511 : BitVec 32 := 10#32
  let v692 : BitVec 1 := Scalar.cmpi .eq v673 c10_i32_511
  let c11_i32_512 : BitVec 32 := 11#32
  let c9_i32_509 : BitVec 32 := 9#32
  let v690 : BitVec 1 := Scalar.cmpi .eq v673 c9_i32_509
  let c7_i32_510 : BitVec 32 := 7#32
  let c8_i32_507 : BitVec 32 := 8#32
  let v688 : BitVec 1 := Scalar.cmpi .eq v673 c8_i32_507
  let c3_i32_508 : BitVec 32 := 3#32
  let c7_i32_505 : BitVec 32 := 7#32
  let v686 : BitVec 1 := Scalar.cmpi .eq v673 c7_i32_505
  let c2_i32_506 : BitVec 32 := 2#32
  let c6_i32_503 : BitVec 32 := 6#32
  let v684 : BitVec 1 := Scalar.cmpi .eq v673 c6_i32_503
  let c6_i32_504 : BitVec 32 := 6#32
  let c5_i32_501 : BitVec 32 := 5#32
  let v682 : BitVec 1 := Scalar.cmpi .eq v673 c5_i32_501
  let c10_i32_502 : BitVec 32 := 10#32
  let c4_i32_499 : BitVec 32 := 4#32
  let v680 : BitVec 1 := Scalar.cmpi .eq v673 c4_i32_499
  let c14_i32_500 : BitVec 32 := 14#32
  let c3_i32_497 : BitVec 32 := 3#32
  let v678 : BitVec 1 := Scalar.cmpi .eq v673 c3_i32_497
  let c13_i32_498 : BitVec 32 := 13#32
  let c2_i32_495 : BitVec 32 := 2#32
  let v676 : BitVec 1 := Scalar.cmpi .eq v673 c2_i32_495
  let c9_i32_496 : BitVec 32 := 9#32
  let c1_i32_492 : BitVec 32 := 1#32
  let v674 : BitVec 1 := Scalar.cmpi .eq v673 c1_i32_492
  let c5_i32_493 : BitVec 32 := 5#32
  let c1_i32_494 : BitVec 32 := 1#32
  let v675 : BitVec 32 := Scalar.select v674 c5_i32_493 c1_i32_494
  let v677 : BitVec 32 := Scalar.select v676 c9_i32_496 v675
  let v679 : BitVec 32 := Scalar.select v678 c13_i32_498 v677
  let v681 : BitVec 32 := Scalar.select v680 c14_i32_500 v679
  let v683 : BitVec 32 := Scalar.select v682 c10_i32_502 v681
  let v685 : BitVec 32 := Scalar.select v684 c6_i32_504 v683
  let v687 : BitVec 32 := Scalar.select v686 c2_i32_506 v685
  let v689 : BitVec 32 := Scalar.select v688 c3_i32_508 v687
  let v691 : BitVec 32 := Scalar.select v690 c7_i32_510 v689
  let v693 : BitVec 32 := Scalar.select v692 c11_i32_512 v691
  let v695 : BitVec 32 := Scalar.select v694 c15_i32_514 v693
  let v697 : BitVec 32 := Scalar.select v696 c12_i32_516 v695
  let v699 : BitVec 32 := Scalar.select v698 c8_i32_518 v697
  let v701 : BitVec 32 := Scalar.select v700 c4_i32_520 v699
  let v703 : BitVec 32 := Scalar.select v702 c0_i32_522 v701
  let c256_i32_523 : BitVec 32 := 256#32
  let v704 : BitVec 32 := Scalar.muli v703 c256_i32_523
  let c2_i32_524 : BitVec 32 := 2#32
  let c0_i32_525 : BitVec 32 := 0#32
  let v705 : BitVec 1 := Scalar.cmpi .eq c2_i32_524 c0_i32_525
  let c1_i32_526 : BitVec 32 := 1#32
  let v706 : BitVec 32 := Scalar.select v705 c1_i32_526 c2_i32_524
  let v707 : BitVec 32 := Scalar.remsi v656 v706
  let c0_i32_528 : BitVec 32 := 0#32
  let v709 : BitVec 1 := Scalar.cmpi .slt v707 c0_i32_528
  let c0_i32_529 : BitVec 32 := 0#32
  let v710 : BitVec 1 := Scalar.cmpi .slt v706 c0_i32_529
  let v711 : BitVec 1 := Scalar.xori v709 v710
  let c0_i32_527 : BitVec 32 := 0#32
  let v708 : BitVec 1 := Scalar.cmpi .ne v707 c0_i32_527
  let v712 : BitVec 1 := Scalar.andi v711 v708
  let v713 : BitVec 32 := Scalar.addi v707 v706
  let v714 : BitVec 32 := Scalar.select v712 v713 v707
  let c128_i32_530 : BitVec 32 := 128#32
  let v715 : BitVec 32 := Scalar.muli v714 c128_i32_530
  let v716 : BitVec 32 := Scalar.addi v704 v715
  let v723 : Index := Scalar.indexCast v716
  let c0_535 : Index := 0#32
  ![v723.toNat, 0]
def k0_off28 (d0 : Dev nD) (c2_i32_476 : BitVec 32) : Fin 3 → Nat :=
  let c2_i32_536 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v644 : BitVec 32 := Scalar.addi v32 c2_i32_476
  let c1_i32_477 : BitVec 32 := 1#32
  let v645 : BitVec 32 := Scalar.subi v644 c1_i32_477
  let c16_i32_478 : BitVec 32 := 16#32
  let c0_i32_479 : BitVec 32 := 0#32
  let v646 : BitVec 1 := Scalar.cmpi .eq c16_i32_478 c0_i32_479
  let c1_i32_480 : BitVec 32 := 1#32
  let v647 : BitVec 32 := Scalar.select v646 c1_i32_480 c16_i32_478
  let v648 : BitVec 32 := Scalar.remsi v645 v647
  let c0_i32_482 : BitVec 32 := 0#32
  let v650 : BitVec 1 := Scalar.cmpi .slt v648 c0_i32_482
  let c0_i32_483 : BitVec 32 := 0#32
  let v651 : BitVec 1 := Scalar.cmpi .slt v647 c0_i32_483
  let v652 : BitVec 1 := Scalar.xori v650 v651
  let c0_i32_481 : BitVec 32 := 0#32
  let v649 : BitVec 1 := Scalar.cmpi .ne v648 c0_i32_481
  let v653 : BitVec 1 := Scalar.andi v652 v649
  let v654 : BitVec 32 := Scalar.addi v648 v647
  let v655 : BitVec 32 := Scalar.select v653 v654 v648
  let v725 : BitVec 32 := Scalar.muli c2_i32_536 v655
  let c1_i32_537 : BitVec 32 := 1#32
  let v726 : BitVec 32 := Scalar.addi v725 c1_i32_537
  let v787 : Index := Scalar.indexCast v726
  let c0_584 : Index := 0#32
  let c0_585 : Index := 0#32
  ![v787.toNat, 0, 0]
def k0_off29 (d0 : Dev nD) (c2_i32_476 : BitVec 32) : Fin 2 → Nat :=
  let c2_i32_536 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let v644 : BitVec 32 := Scalar.addi v32 c2_i32_476
  let c1_i32_477 : BitVec 32 := 1#32
  let v645 : BitVec 32 := Scalar.subi v644 c1_i32_477
  let c16_i32_478 : BitVec 32 := 16#32
  let c0_i32_479 : BitVec 32 := 0#32
  let v646 : BitVec 1 := Scalar.cmpi .eq c16_i32_478 c0_i32_479
  let c1_i32_480 : BitVec 32 := 1#32
  let v647 : BitVec 32 := Scalar.select v646 c1_i32_480 c16_i32_478
  let v648 : BitVec 32 := Scalar.remsi v645 v647
  let c0_i32_482 : BitVec 32 := 0#32
  let v650 : BitVec 1 := Scalar.cmpi .slt v648 c0_i32_482
  let c0_i32_483 : BitVec 32 := 0#32
  let v651 : BitVec 1 := Scalar.cmpi .slt v647 c0_i32_483
  let v652 : BitVec 1 := Scalar.xori v650 v651
  let c0_i32_481 : BitVec 32 := 0#32
  let v649 : BitVec 1 := Scalar.cmpi .ne v648 c0_i32_481
  let v653 : BitVec 1 := Scalar.andi v652 v649
  let v654 : BitVec 32 := Scalar.addi v648 v647
  let v655 : BitVec 32 := Scalar.select v653 v654 v648
  let v725 : BitVec 32 := Scalar.muli c2_i32_536 v655
  let c1_i32_537 : BitVec 32 := 1#32
  let v726 : BitVec 32 := Scalar.addi v725 c1_i32_537
  let c0_i32_539 : BitVec 32 := 0#32
  let v728 : BitVec 1 := Scalar.cmpi .sgt v726 c0_i32_539
  let v729 : BitVec 32 := Scalar.extui v728
  let c0_i32_540 : BitVec 32 := 0#32
  let v730 : BitVec 1 := Scalar.cmpi .slt v726 c0_i32_540
  let v731 : BitVec 32 := Scalar.extui v730
  let v732 : BitVec 32 := Scalar.subi v729 v731
  let c2_i32_538 : BitVec 32 := 2#32
  let c0_i32_541 : BitVec 32 := 0#32
  let v733 : BitVec 1 := Scalar.cmpi .sgt c2_i32_538 c0_i32_541
  let v734 : BitVec 32 := Scalar.extui v733
  let c0_i32_542 : BitVec 32 := 0#32
  let v735 : BitVec 1 := Scalar.cmpi .slt c2_i32_538 c0_i32_542
  let v736 : BitVec 32 := Scalar.extui v735
  let v737 : BitVec 32 := Scalar.subi v734 v736
  let v738 : BitVec 1 := Scalar.cmpi .ne v732 v737
  let v739 : BitVec 32 := Scalar.remsi v726 c2_i32_538
  let c0_i32_543 : BitVec 32 := 0#32
  let v740 : BitVec 1 := Scalar.cmpi .ne v739 c0_i32_543
  let v741 : BitVec 1 := Scalar.andi v738 v740
  let v727 : BitVec 32 := Scalar.divsi v726 c2_i32_538
  let c1_i32_544 : BitVec 32 := 1#32
  let v742 : BitVec 32 := Scalar.subi v727 c1_i32_544
  let v743 : BitVec 32 := Scalar.select v741 v742 v727
  let c15_i32_574 : BitVec 32 := 15#32
  let v772 : BitVec 1 := Scalar.cmpi .eq v743 c15_i32_574
  let c0_i32_575 : BitVec 32 := 0#32
  let c14_i32_572 : BitVec 32 := 14#32
  let v770 : BitVec 1 := Scalar.cmpi .eq v743 c14_i32_572
  let c4_i32_573 : BitVec 32 := 4#32
  let c13_i32_570 : BitVec 32 := 13#32
  let v768 : BitVec 1 := Scalar.cmpi .eq v743 c13_i32_570
  let c8_i32_571 : BitVec 32 := 8#32
  let c12_i32_568 : BitVec 32 := 12#32
  let v766 : BitVec 1 := Scalar.cmpi .eq v743 c12_i32_568
  let c12_i32_569 : BitVec 32 := 12#32
  let c11_i32_566 : BitVec 32 := 11#32
  let v764 : BitVec 1 := Scalar.cmpi .eq v743 c11_i32_566
  let c15_i32_567 : BitVec 32 := 15#32
  let c10_i32_564 : BitVec 32 := 10#32
  let v762 : BitVec 1 := Scalar.cmpi .eq v743 c10_i32_564
  let c11_i32_565 : BitVec 32 := 11#32
  let c9_i32_562 : BitVec 32 := 9#32
  let v760 : BitVec 1 := Scalar.cmpi .eq v743 c9_i32_562
  let c7_i32_563 : BitVec 32 := 7#32
  let c8_i32_560 : BitVec 32 := 8#32
  let v758 : BitVec 1 := Scalar.cmpi .eq v743 c8_i32_560
  let c3_i32_561 : BitVec 32 := 3#32
  let c7_i32_558 : BitVec 32 := 7#32
  let v756 : BitVec 1 := Scalar.cmpi .eq v743 c7_i32_558
  let c2_i32_559 : BitVec 32 := 2#32
  let c6_i32_556 : BitVec 32 := 6#32
  let v754 : BitVec 1 := Scalar.cmpi .eq v743 c6_i32_556
  let c6_i32_557 : BitVec 32 := 6#32
  let c5_i32_554 : BitVec 32 := 5#32
  let v752 : BitVec 1 := Scalar.cmpi .eq v743 c5_i32_554
  let c10_i32_555 : BitVec 32 := 10#32
  let c4_i32_552 : BitVec 32 := 4#32
  let v750 : BitVec 1 := Scalar.cmpi .eq v743 c4_i32_552
  let c14_i32_553 : BitVec 32 := 14#32
  let c3_i32_550 : BitVec 32 := 3#32
  let v748 : BitVec 1 := Scalar.cmpi .eq v743 c3_i32_550
  let c13_i32_551 : BitVec 32 := 13#32
  let c2_i32_548 : BitVec 32 := 2#32
  let v746 : BitVec 1 := Scalar.cmpi .eq v743 c2_i32_548
  let c9_i32_549 : BitVec 32 := 9#32
  let c1_i32_545 : BitVec 32 := 1#32
  let v744 : BitVec 1 := Scalar.cmpi .eq v743 c1_i32_545
  let c5_i32_546 : BitVec 32 := 5#32
  let c1_i32_547 : BitVec 32 := 1#32
  let v745 : BitVec 32 := Scalar.select v744 c5_i32_546 c1_i32_547
  let v747 : BitVec 32 := Scalar.select v746 c9_i32_549 v745
  let v749 : BitVec 32 := Scalar.select v748 c13_i32_551 v747
  let v751 : BitVec 32 := Scalar.select v750 c14_i32_553 v749
  let v753 : BitVec 32 := Scalar.select v752 c10_i32_555 v751
  let v755 : BitVec 32 := Scalar.select v754 c6_i32_557 v753
  let v757 : BitVec 32 := Scalar.select v756 c2_i32_559 v755
  let v759 : BitVec 32 := Scalar.select v758 c3_i32_561 v757
  let v761 : BitVec 32 := Scalar.select v760 c7_i32_563 v759
  let v763 : BitVec 32 := Scalar.select v762 c11_i32_565 v761
  let v765 : BitVec 32 := Scalar.select v764 c15_i32_567 v763
  let v767 : BitVec 32 := Scalar.select v766 c12_i32_569 v765
  let v769 : BitVec 32 := Scalar.select v768 c8_i32_571 v767
  let v771 : BitVec 32 := Scalar.select v770 c4_i32_573 v769
  let v773 : BitVec 32 := Scalar.select v772 c0_i32_575 v771
  let c256_i32_576 : BitVec 32 := 256#32
  let v774 : BitVec 32 := Scalar.muli v773 c256_i32_576
  let c2_i32_577 : BitVec 32 := 2#32
  let c0_i32_578 : BitVec 32 := 0#32
  let v775 : BitVec 1 := Scalar.cmpi .eq c2_i32_577 c0_i32_578
  let c1_i32_579 : BitVec 32 := 1#32
  let v776 : BitVec 32 := Scalar.select v775 c1_i32_579 c2_i32_577
  let v777 : BitVec 32 := Scalar.remsi v726 v776
  let c0_i32_581 : BitVec 32 := 0#32
  let v779 : BitVec 1 := Scalar.cmpi .slt v777 c0_i32_581
  let c0_i32_582 : BitVec 32 := 0#32
  let v780 : BitVec 1 := Scalar.cmpi .slt v776 c0_i32_582
  let v781 : BitVec 1 := Scalar.xori v779 v780
  let c0_i32_580 : BitVec 32 := 0#32
  let v778 : BitVec 1 := Scalar.cmpi .ne v777 c0_i32_580
  let v782 : BitVec 1 := Scalar.andi v781 v778
  let v783 : BitVec 32 := Scalar.addi v777 v776
  let v784 : BitVec 32 := Scalar.select v782 v783 v777
  let c128_i32_583 : BitVec 32 := 128#32
  let v785 : BitVec 32 := Scalar.muli v784 c128_i32_583
  let v786 : BitVec 32 := Scalar.addi v774 v785
  let v793 : Index := Scalar.indexCast v786
  let c0_588 : Index := 0#32
  ![v793.toNat, 0]
def k0_dev11 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_675 : BitVec 32 := 1#32
  let v909 : BitVec 32 := Scalar.muli v73 c1_i32_675
  let v910 : BitVec 32 := Scalar.addi c0_i32_676 v909
  v910.toNat
def k0_dev12 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_681 : BitVec 32 := 1#32
  let v919 : BitVec 32 := Scalar.muli v114 c1_i32_681
  let v920 : BitVec 32 := Scalar.addi c0_i32_682 v919
  v920.toNat
def k0_dev13 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_687 : BitVec 32 := 1#32
  let v929 : BitVec 32 := Scalar.muli v73 c1_i32_687
  let v930 : BitVec 32 := Scalar.addi c0_i32_688 v929
  v930.toNat
def k0_dev14 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_693 : BitVec 32 := 1#32
  let v939 : BitVec 32 := Scalar.muli v114 c1_i32_693
  let v940 : BitVec 32 := Scalar.addi c0_i32_694 v939
  v940.toNat
def k0_dev15 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_1011 : BitVec 32 := 1#32
  let v1365 : BitVec 32 := Scalar.muli v73 c1_i32_1011
  let v1366 : BitVec 32 := Scalar.addi c0_i32_1012 v1365
  v1366.toNat
def k0_dev16 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_1017 : BitVec 32 := 1#32
  let v1375 : BitVec 32 := Scalar.muli v114 c1_i32_1017
  let v1376 : BitVec 32 := Scalar.addi c0_i32_1018 v1375
  v1376.toNat
def k0_dev17 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_1023 : BitVec 32 := 1#32
  let v1385 : BitVec 32 := Scalar.muli v73 c1_i32_1023
  let v1386 : BitVec 32 := Scalar.addi c0_i32_1024 v1385
  v1386.toNat
def k0_dev18 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_1029 : BitVec 32 := 1#32
  let v1395 : BitVec 32 := Scalar.muli v114 c1_i32_1029
  let v1396 : BitVec 32 := Scalar.addi c0_i32_1030 v1395
  v1396.toNat
def k0_dev19 (d0 : Dev nD) : Nat :=
  let c0_i32_1348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_1347 : BitVec 32 := 1#32
  let v1821 : BitVec 32 := Scalar.muli v73 c1_i32_1347
  let v1822 : BitVec 32 := Scalar.addi c0_i32_1348 v1821
  v1822.toNat
def k0_dev20 (d0 : Dev nD) : Nat :=
  let c0_i32_1354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_1353 : BitVec 32 := 1#32
  let v1831 : BitVec 32 := Scalar.muli v114 c1_i32_1353
  let v1832 : BitVec 32 := Scalar.addi c0_i32_1354 v1831
  v1832.toNat
def k0_dev21 (d0 : Dev nD) : Nat :=
  let c0_i32_1360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_1359 : BitVec 32 := 1#32
  let v1841 : BitVec 32 := Scalar.muli v73 c1_i32_1359
  let v1842 : BitVec 32 := Scalar.addi c0_i32_1360 v1841
  v1842.toNat
def k0_dev22 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_1365 : BitVec 32 := 1#32
  let v1851 : BitVec 32 := Scalar.muli v114 c1_i32_1365
  let v1852 : BitVec 32 := Scalar.addi c0_i32_1366 v1851
  v1852.toNat
def k0_dev23 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_1683 : BitVec 32 := 1#32
  let v2277 : BitVec 32 := Scalar.muli v73 c1_i32_1683
  let v2278 : BitVec 32 := Scalar.addi c0_i32_1684 v2277
  v2278.toNat
def k0_dev24 (d0 : Dev nD) : Nat :=
  let c0_i32_1690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_1689 : BitVec 32 := 1#32
  let v2287 : BitVec 32 := Scalar.muli v114 c1_i32_1689
  let v2288 : BitVec 32 := Scalar.addi c0_i32_1690 v2287
  v2288.toNat
def k0_dev25 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_1695 : BitVec 32 := 1#32
  let v2297 : BitVec 32 := Scalar.muli v73 c1_i32_1695
  let v2298 : BitVec 32 := Scalar.addi c0_i32_1696 v2297
  v2298.toNat
def k0_dev26 (d0 : Dev nD) : Nat :=
  let c0_i32_1702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_1701 : BitVec 32 := 1#32
  let v2307 : BitVec 32 := Scalar.muli v114 c1_i32_1701
  let v2308 : BitVec 32 := Scalar.addi c0_i32_1702 v2307
  v2308.toNat
def k0_dev27 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_2019 : BitVec 32 := 1#32
  let v2733 : BitVec 32 := Scalar.muli v73 c1_i32_2019
  let v2734 : BitVec 32 := Scalar.addi c0_i32_2020 v2733
  v2734.toNat
def k0_dev28 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_2025 : BitVec 32 := 1#32
  let v2743 : BitVec 32 := Scalar.muli v114 c1_i32_2025
  let v2744 : BitVec 32 := Scalar.addi c0_i32_2026 v2743
  v2744.toNat
def k0_dev29 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_2031 : BitVec 32 := 1#32
  let v2753 : BitVec 32 := Scalar.muli v73 c1_i32_2031
  let v2754 : BitVec 32 := Scalar.addi c0_i32_2032 v2753
  v2754.toNat
def k0_dev30 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_2037 : BitVec 32 := 1#32
  let v2763 : BitVec 32 := Scalar.muli v114 c1_i32_2037
  let v2764 : BitVec 32 := Scalar.addi c0_i32_2038 v2763
  v2764.toNat
def k0_dev31 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c0_i32_53 : BitVec 32 := 0#32
  let c14_i32_50 : BitVec 32 := 14#32
  let v70 : BitVec 1 := Scalar.cmpi .eq v43 c14_i32_50
  let c4_i32_51 : BitVec 32 := 4#32
  let c13_i32_48 : BitVec 32 := 13#32
  let v68 : BitVec 1 := Scalar.cmpi .eq v43 c13_i32_48
  let c8_i32_49 : BitVec 32 := 8#32
  let c12_i32_46 : BitVec 32 := 12#32
  let v66 : BitVec 1 := Scalar.cmpi .eq v43 c12_i32_46
  let c12_i32_47 : BitVec 32 := 12#32
  let c11_i32_44 : BitVec 32 := 11#32
  let v64 : BitVec 1 := Scalar.cmpi .eq v43 c11_i32_44
  let c15_i32_45 : BitVec 32 := 15#32
  let c10_i32_42 : BitVec 32 := 10#32
  let v62 : BitVec 1 := Scalar.cmpi .eq v43 c10_i32_42
  let c11_i32_43 : BitVec 32 := 11#32
  let c9_i32_40 : BitVec 32 := 9#32
  let v60 : BitVec 1 := Scalar.cmpi .eq v43 c9_i32_40
  let c7_i32_41 : BitVec 32 := 7#32
  let c8_i32_38 : BitVec 32 := 8#32
  let v58 : BitVec 1 := Scalar.cmpi .eq v43 c8_i32_38
  let c3_i32_39 : BitVec 32 := 3#32
  let c7_i32_36 : BitVec 32 := 7#32
  let v56 : BitVec 1 := Scalar.cmpi .eq v43 c7_i32_36
  let c2_i32_37 : BitVec 32 := 2#32
  let c6_i32_34 : BitVec 32 := 6#32
  let v54 : BitVec 1 := Scalar.cmpi .eq v43 c6_i32_34
  let c6_i32_35 : BitVec 32 := 6#32
  let c5_i32_32 : BitVec 32 := 5#32
  let v52 : BitVec 1 := Scalar.cmpi .eq v43 c5_i32_32
  let c10_i32_33 : BitVec 32 := 10#32
  let c4_i32_30 : BitVec 32 := 4#32
  let v50 : BitVec 1 := Scalar.cmpi .eq v43 c4_i32_30
  let c14_i32_31 : BitVec 32 := 14#32
  let c3_i32_28 : BitVec 32 := 3#32
  let v48 : BitVec 1 := Scalar.cmpi .eq v43 c3_i32_28
  let c13_i32_29 : BitVec 32 := 13#32
  let c2_i32_26 : BitVec 32 := 2#32
  let v46 : BitVec 1 := Scalar.cmpi .eq v43 c2_i32_26
  let c9_i32_27 : BitVec 32 := 9#32
  let c1_i32_23 : BitVec 32 := 1#32
  let v44 : BitVec 1 := Scalar.cmpi .eq v43 c1_i32_23
  let c5_i32_24 : BitVec 32 := 5#32
  let c1_i32_25 : BitVec 32 := 1#32
  let v45 : BitVec 32 := Scalar.select v44 c5_i32_24 c1_i32_25
  let v47 : BitVec 32 := Scalar.select v46 c9_i32_27 v45
  let v49 : BitVec 32 := Scalar.select v48 c13_i32_29 v47
  let v51 : BitVec 32 := Scalar.select v50 c14_i32_31 v49
  let v53 : BitVec 32 := Scalar.select v52 c10_i32_33 v51
  let v55 : BitVec 32 := Scalar.select v54 c6_i32_35 v53
  let v57 : BitVec 32 := Scalar.select v56 c2_i32_37 v55
  let v59 : BitVec 32 := Scalar.select v58 c3_i32_39 v57
  let v61 : BitVec 32 := Scalar.select v60 c7_i32_41 v59
  let v63 : BitVec 32 := Scalar.select v62 c11_i32_43 v61
  let v65 : BitVec 32 := Scalar.select v64 c15_i32_45 v63
  let v67 : BitVec 32 := Scalar.select v66 c12_i32_47 v65
  let v69 : BitVec 32 := Scalar.select v68 c8_i32_49 v67
  let v71 : BitVec 32 := Scalar.select v70 c4_i32_51 v69
  let v73 : BitVec 32 := Scalar.select v72 c0_i32_53 v71
  let c1_i32_2352 : BitVec 32 := 1#32
  let v3186 : BitVec 32 := Scalar.muli v73 c1_i32_2352
  let v3187 : BitVec 32 := Scalar.addi c0_i32_2353 v3186
  v3187.toNat
def k0_dev32 (d0 : Dev nD) : Nat :=
  let c0_i32_2359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c1_i32_54 : BitVec 32 := 1#32
  let v74 : BitVec 32 := Scalar.subi v32 c1_i32_54
  let c16_i32_55 : BitVec 32 := 16#32
  let c0_i32_56 : BitVec 32 := 0#32
  let v75 : BitVec 1 := Scalar.cmpi .eq c16_i32_55 c0_i32_56
  let c1_i32_57 : BitVec 32 := 1#32
  let v76 : BitVec 32 := Scalar.select v75 c1_i32_57 c16_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c15_i32_90 : BitVec 32 := 15#32
  let v113 : BitVec 1 := Scalar.cmpi .eq v84 c15_i32_90
  let c0_i32_91 : BitVec 32 := 0#32
  let c14_i32_88 : BitVec 32 := 14#32
  let v111 : BitVec 1 := Scalar.cmpi .eq v84 c14_i32_88
  let c4_i32_89 : BitVec 32 := 4#32
  let c13_i32_86 : BitVec 32 := 13#32
  let v109 : BitVec 1 := Scalar.cmpi .eq v84 c13_i32_86
  let c8_i32_87 : BitVec 32 := 8#32
  let c12_i32_84 : BitVec 32 := 12#32
  let v107 : BitVec 1 := Scalar.cmpi .eq v84 c12_i32_84
  let c12_i32_85 : BitVec 32 := 12#32
  let c11_i32_82 : BitVec 32 := 11#32
  let v105 : BitVec 1 := Scalar.cmpi .eq v84 c11_i32_82
  let c15_i32_83 : BitVec 32 := 15#32
  let c10_i32_80 : BitVec 32 := 10#32
  let v103 : BitVec 1 := Scalar.cmpi .eq v84 c10_i32_80
  let c11_i32_81 : BitVec 32 := 11#32
  let c9_i32_78 : BitVec 32 := 9#32
  let v101 : BitVec 1 := Scalar.cmpi .eq v84 c9_i32_78
  let c7_i32_79 : BitVec 32 := 7#32
  let c8_i32_76 : BitVec 32 := 8#32
  let v99 : BitVec 1 := Scalar.cmpi .eq v84 c8_i32_76
  let c3_i32_77 : BitVec 32 := 3#32
  let c7_i32_74 : BitVec 32 := 7#32
  let v97 : BitVec 1 := Scalar.cmpi .eq v84 c7_i32_74
  let c2_i32_75 : BitVec 32 := 2#32
  let c6_i32_72 : BitVec 32 := 6#32
  let v95 : BitVec 1 := Scalar.cmpi .eq v84 c6_i32_72
  let c6_i32_73 : BitVec 32 := 6#32
  let c5_i32_70 : BitVec 32 := 5#32
  let v93 : BitVec 1 := Scalar.cmpi .eq v84 c5_i32_70
  let c10_i32_71 : BitVec 32 := 10#32
  let c4_i32_68 : BitVec 32 := 4#32
  let v91 : BitVec 1 := Scalar.cmpi .eq v84 c4_i32_68
  let c14_i32_69 : BitVec 32 := 14#32
  let c3_i32_66 : BitVec 32 := 3#32
  let v89 : BitVec 1 := Scalar.cmpi .eq v84 c3_i32_66
  let c13_i32_67 : BitVec 32 := 13#32
  let c2_i32_64 : BitVec 32 := 2#32
  let v87 : BitVec 1 := Scalar.cmpi .eq v84 c2_i32_64
  let c9_i32_65 : BitVec 32 := 9#32
  let c1_i32_61 : BitVec 32 := 1#32
  let v85 : BitVec 1 := Scalar.cmpi .eq v84 c1_i32_61
  let c5_i32_62 : BitVec 32 := 5#32
  let c1_i32_63 : BitVec 32 := 1#32
  let v86 : BitVec 32 := Scalar.select v85 c5_i32_62 c1_i32_63
  let v88 : BitVec 32 := Scalar.select v87 c9_i32_65 v86
  let v90 : BitVec 32 := Scalar.select v89 c13_i32_67 v88
  let v92 : BitVec 32 := Scalar.select v91 c14_i32_69 v90
  let v94 : BitVec 32 := Scalar.select v93 c10_i32_71 v92
  let v96 : BitVec 32 := Scalar.select v95 c6_i32_73 v94
  let v98 : BitVec 32 := Scalar.select v97 c2_i32_75 v96
  let v100 : BitVec 32 := Scalar.select v99 c3_i32_77 v98
  let v102 : BitVec 32 := Scalar.select v101 c7_i32_79 v100
  let v104 : BitVec 32 := Scalar.select v103 c11_i32_81 v102
  let v106 : BitVec 32 := Scalar.select v105 c15_i32_83 v104
  let v108 : BitVec 32 := Scalar.select v107 c12_i32_85 v106
  let v110 : BitVec 32 := Scalar.select v109 c8_i32_87 v108
  let v112 : BitVec 32 := Scalar.select v111 c4_i32_89 v110
  let v114 : BitVec 32 := Scalar.select v113 c0_i32_91 v112
  let c1_i32_2358 : BitVec 32 := 1#32
  let v3196 : BitVec 32 := Scalar.muli v114 c1_i32_2358
  let v3197 : BitVec 32 := Scalar.addi c0_i32_2359 v3196
  v3197.toNat
def k0_off30 (d0 : Dev nD) : Fin 3 → Nat :=
  let c2_i32_2636 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c8_i32_2629 : BitVec 32 := 8#32
  let v3561 : BitVec 32 := Scalar.subi v32 c8_i32_2629
  let c16_i32_2630 : BitVec 32 := 16#32
  let c0_i32_2631 : BitVec 32 := 0#32
  let v3562 : BitVec 1 := Scalar.cmpi .eq c16_i32_2630 c0_i32_2631
  let c1_i32_2632 : BitVec 32 := 1#32
  let v3563 : BitVec 32 := Scalar.select v3562 c1_i32_2632 c16_i32_2630
  let v3564 : BitVec 32 := Scalar.remsi v3561 v3563
  let c0_i32_2634 : BitVec 32 := 0#32
  let v3566 : BitVec 1 := Scalar.cmpi .slt v3564 c0_i32_2634
  let c0_i32_2635 : BitVec 32 := 0#32
  let v3567 : BitVec 1 := Scalar.cmpi .slt v3563 c0_i32_2635
  let v3568 : BitVec 1 := Scalar.xori v3566 v3567
  let c0_i32_2633 : BitVec 32 := 0#32
  let v3565 : BitVec 1 := Scalar.cmpi .ne v3564 c0_i32_2633
  let v3569 : BitVec 1 := Scalar.andi v3568 v3565
  let v3570 : BitVec 32 := Scalar.addi v3564 v3563
  let v3571 : BitVec 32 := Scalar.select v3569 v3570 v3564
  let v3572 : BitVec 32 := Scalar.muli c2_i32_2636 v3571
  let v3633 : Index := Scalar.indexCast v3572
  let c0_2683 : Index := 0#32
  let c0_2684 : Index := 0#32
  ![v3633.toNat, 0, 0]
def k0_off31 (d0 : Dev nD) : Fin 2 → Nat :=
  let c2_i32_2636 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c8_i32_2629 : BitVec 32 := 8#32
  let v3561 : BitVec 32 := Scalar.subi v32 c8_i32_2629
  let c16_i32_2630 : BitVec 32 := 16#32
  let c0_i32_2631 : BitVec 32 := 0#32
  let v3562 : BitVec 1 := Scalar.cmpi .eq c16_i32_2630 c0_i32_2631
  let c1_i32_2632 : BitVec 32 := 1#32
  let v3563 : BitVec 32 := Scalar.select v3562 c1_i32_2632 c16_i32_2630
  let v3564 : BitVec 32 := Scalar.remsi v3561 v3563
  let c0_i32_2634 : BitVec 32 := 0#32
  let v3566 : BitVec 1 := Scalar.cmpi .slt v3564 c0_i32_2634
  let c0_i32_2635 : BitVec 32 := 0#32
  let v3567 : BitVec 1 := Scalar.cmpi .slt v3563 c0_i32_2635
  let v3568 : BitVec 1 := Scalar.xori v3566 v3567
  let c0_i32_2633 : BitVec 32 := 0#32
  let v3565 : BitVec 1 := Scalar.cmpi .ne v3564 c0_i32_2633
  let v3569 : BitVec 1 := Scalar.andi v3568 v3565
  let v3570 : BitVec 32 := Scalar.addi v3564 v3563
  let v3571 : BitVec 32 := Scalar.select v3569 v3570 v3564
  let v3572 : BitVec 32 := Scalar.muli c2_i32_2636 v3571
  let c0_i32_2638 : BitVec 32 := 0#32
  let v3574 : BitVec 1 := Scalar.cmpi .sgt v3572 c0_i32_2638
  let v3575 : BitVec 32 := Scalar.extui v3574
  let c0_i32_2639 : BitVec 32 := 0#32
  let v3576 : BitVec 1 := Scalar.cmpi .slt v3572 c0_i32_2639
  let v3577 : BitVec 32 := Scalar.extui v3576
  let v3578 : BitVec 32 := Scalar.subi v3575 v3577
  let c2_i32_2637 : BitVec 32 := 2#32
  let c0_i32_2640 : BitVec 32 := 0#32
  let v3579 : BitVec 1 := Scalar.cmpi .sgt c2_i32_2637 c0_i32_2640
  let v3580 : BitVec 32 := Scalar.extui v3579
  let c0_i32_2641 : BitVec 32 := 0#32
  let v3581 : BitVec 1 := Scalar.cmpi .slt c2_i32_2637 c0_i32_2641
  let v3582 : BitVec 32 := Scalar.extui v3581
  let v3583 : BitVec 32 := Scalar.subi v3580 v3582
  let v3584 : BitVec 1 := Scalar.cmpi .ne v3578 v3583
  let v3585 : BitVec 32 := Scalar.remsi v3572 c2_i32_2637
  let c0_i32_2642 : BitVec 32 := 0#32
  let v3586 : BitVec 1 := Scalar.cmpi .ne v3585 c0_i32_2642
  let v3587 : BitVec 1 := Scalar.andi v3584 v3586
  let v3573 : BitVec 32 := Scalar.divsi v3572 c2_i32_2637
  let c1_i32_2643 : BitVec 32 := 1#32
  let v3588 : BitVec 32 := Scalar.subi v3573 c1_i32_2643
  let v3589 : BitVec 32 := Scalar.select v3587 v3588 v3573
  let c15_i32_2673 : BitVec 32 := 15#32
  let v3618 : BitVec 1 := Scalar.cmpi .eq v3589 c15_i32_2673
  let c0_i32_2674 : BitVec 32 := 0#32
  let c14_i32_2671 : BitVec 32 := 14#32
  let v3616 : BitVec 1 := Scalar.cmpi .eq v3589 c14_i32_2671
  let c4_i32_2672 : BitVec 32 := 4#32
  let c13_i32_2669 : BitVec 32 := 13#32
  let v3614 : BitVec 1 := Scalar.cmpi .eq v3589 c13_i32_2669
  let c8_i32_2670 : BitVec 32 := 8#32
  let c12_i32_2667 : BitVec 32 := 12#32
  let v3612 : BitVec 1 := Scalar.cmpi .eq v3589 c12_i32_2667
  let c12_i32_2668 : BitVec 32 := 12#32
  let c11_i32_2665 : BitVec 32 := 11#32
  let v3610 : BitVec 1 := Scalar.cmpi .eq v3589 c11_i32_2665
  let c15_i32_2666 : BitVec 32 := 15#32
  let c10_i32_2663 : BitVec 32 := 10#32
  let v3608 : BitVec 1 := Scalar.cmpi .eq v3589 c10_i32_2663
  let c11_i32_2664 : BitVec 32 := 11#32
  let c9_i32_2661 : BitVec 32 := 9#32
  let v3606 : BitVec 1 := Scalar.cmpi .eq v3589 c9_i32_2661
  let c7_i32_2662 : BitVec 32 := 7#32
  let c8_i32_2659 : BitVec 32 := 8#32
  let v3604 : BitVec 1 := Scalar.cmpi .eq v3589 c8_i32_2659
  let c3_i32_2660 : BitVec 32 := 3#32
  let c7_i32_2657 : BitVec 32 := 7#32
  let v3602 : BitVec 1 := Scalar.cmpi .eq v3589 c7_i32_2657
  let c2_i32_2658 : BitVec 32 := 2#32
  let c6_i32_2655 : BitVec 32 := 6#32
  let v3600 : BitVec 1 := Scalar.cmpi .eq v3589 c6_i32_2655
  let c6_i32_2656 : BitVec 32 := 6#32
  let c5_i32_2653 : BitVec 32 := 5#32
  let v3598 : BitVec 1 := Scalar.cmpi .eq v3589 c5_i32_2653
  let c10_i32_2654 : BitVec 32 := 10#32
  let c4_i32_2651 : BitVec 32 := 4#32
  let v3596 : BitVec 1 := Scalar.cmpi .eq v3589 c4_i32_2651
  let c14_i32_2652 : BitVec 32 := 14#32
  let c3_i32_2649 : BitVec 32 := 3#32
  let v3594 : BitVec 1 := Scalar.cmpi .eq v3589 c3_i32_2649
  let c13_i32_2650 : BitVec 32 := 13#32
  let c2_i32_2647 : BitVec 32 := 2#32
  let v3592 : BitVec 1 := Scalar.cmpi .eq v3589 c2_i32_2647
  let c9_i32_2648 : BitVec 32 := 9#32
  let c1_i32_2644 : BitVec 32 := 1#32
  let v3590 : BitVec 1 := Scalar.cmpi .eq v3589 c1_i32_2644
  let c5_i32_2645 : BitVec 32 := 5#32
  let c1_i32_2646 : BitVec 32 := 1#32
  let v3591 : BitVec 32 := Scalar.select v3590 c5_i32_2645 c1_i32_2646
  let v3593 : BitVec 32 := Scalar.select v3592 c9_i32_2648 v3591
  let v3595 : BitVec 32 := Scalar.select v3594 c13_i32_2650 v3593
  let v3597 : BitVec 32 := Scalar.select v3596 c14_i32_2652 v3595
  let v3599 : BitVec 32 := Scalar.select v3598 c10_i32_2654 v3597
  let v3601 : BitVec 32 := Scalar.select v3600 c6_i32_2656 v3599
  let v3603 : BitVec 32 := Scalar.select v3602 c2_i32_2658 v3601
  let v3605 : BitVec 32 := Scalar.select v3604 c3_i32_2660 v3603
  let v3607 : BitVec 32 := Scalar.select v3606 c7_i32_2662 v3605
  let v3609 : BitVec 32 := Scalar.select v3608 c11_i32_2664 v3607
  let v3611 : BitVec 32 := Scalar.select v3610 c15_i32_2666 v3609
  let v3613 : BitVec 32 := Scalar.select v3612 c12_i32_2668 v3611
  let v3615 : BitVec 32 := Scalar.select v3614 c8_i32_2670 v3613
  let v3617 : BitVec 32 := Scalar.select v3616 c4_i32_2672 v3615
  let v3619 : BitVec 32 := Scalar.select v3618 c0_i32_2674 v3617
  let c256_i32_2675 : BitVec 32 := 256#32
  let v3620 : BitVec 32 := Scalar.muli v3619 c256_i32_2675
  let c2_i32_2676 : BitVec 32 := 2#32
  let c0_i32_2677 : BitVec 32 := 0#32
  let v3621 : BitVec 1 := Scalar.cmpi .eq c2_i32_2676 c0_i32_2677
  let c1_i32_2678 : BitVec 32 := 1#32
  let v3622 : BitVec 32 := Scalar.select v3621 c1_i32_2678 c2_i32_2676
  let v3623 : BitVec 32 := Scalar.remsi v3572 v3622
  let c0_i32_2680 : BitVec 32 := 0#32
  let v3625 : BitVec 1 := Scalar.cmpi .slt v3623 c0_i32_2680
  let c0_i32_2681 : BitVec 32 := 0#32
  let v3626 : BitVec 1 := Scalar.cmpi .slt v3622 c0_i32_2681
  let v3627 : BitVec 1 := Scalar.xori v3625 v3626
  let c0_i32_2679 : BitVec 32 := 0#32
  let v3624 : BitVec 1 := Scalar.cmpi .ne v3623 c0_i32_2679
  let v3628 : BitVec 1 := Scalar.andi v3627 v3624
  let v3629 : BitVec 32 := Scalar.addi v3623 v3622
  let v3630 : BitVec 32 := Scalar.select v3628 v3629 v3623
  let c128_i32_2682 : BitVec 32 := 128#32
  let v3631 : BitVec 32 := Scalar.muli v3630 c128_i32_2682
  let v3632 : BitVec 32 := Scalar.addi v3620 v3631
  let v3639 : Index := Scalar.indexCast v3632
  let c0_2687 : Index := 0#32
  ![v3639.toNat, 0]
def k0_off32 (d0 : Dev nD) : Fin 3 → Nat :=
  let c2_i32_2688 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c8_i32_2629 : BitVec 32 := 8#32
  let v3561 : BitVec 32 := Scalar.subi v32 c8_i32_2629
  let c16_i32_2630 : BitVec 32 := 16#32
  let c0_i32_2631 : BitVec 32 := 0#32
  let v3562 : BitVec 1 := Scalar.cmpi .eq c16_i32_2630 c0_i32_2631
  let c1_i32_2632 : BitVec 32 := 1#32
  let v3563 : BitVec 32 := Scalar.select v3562 c1_i32_2632 c16_i32_2630
  let v3564 : BitVec 32 := Scalar.remsi v3561 v3563
  let c0_i32_2634 : BitVec 32 := 0#32
  let v3566 : BitVec 1 := Scalar.cmpi .slt v3564 c0_i32_2634
  let c0_i32_2635 : BitVec 32 := 0#32
  let v3567 : BitVec 1 := Scalar.cmpi .slt v3563 c0_i32_2635
  let v3568 : BitVec 1 := Scalar.xori v3566 v3567
  let c0_i32_2633 : BitVec 32 := 0#32
  let v3565 : BitVec 1 := Scalar.cmpi .ne v3564 c0_i32_2633
  let v3569 : BitVec 1 := Scalar.andi v3568 v3565
  let v3570 : BitVec 32 := Scalar.addi v3564 v3563
  let v3571 : BitVec 32 := Scalar.select v3569 v3570 v3564
  let v3641 : BitVec 32 := Scalar.muli c2_i32_2688 v3571
  let c1_i32_2689 : BitVec 32 := 1#32
  let v3642 : BitVec 32 := Scalar.addi v3641 c1_i32_2689
  let v3703 : Index := Scalar.indexCast v3642
  let c0_2736 : Index := 0#32
  let c0_2737 : Index := 0#32
  ![v3703.toNat, 0, 0]
def k0_off33 (d0 : Dev nD) : Fin 2 → Nat :=
  let c2_i32_2688 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_12 : BitVec 32 := 14#32
  let v29 : BitVec 1 := Scalar.cmpi .eq v2 c14_i32_12
  let c4_i32_13 : BitVec 32 := 4#32
  let c13_i32_10 : BitVec 32 := 13#32
  let v27 : BitVec 1 := Scalar.cmpi .eq v2 c13_i32_10
  let c3_i32_11 : BitVec 32 := 3#32
  let c12_i32 : BitVec 32 := 12#32
  let v25 : BitVec 1 := Scalar.cmpi .eq v2 c12_i32
  let c12_i32_9 : BitVec 32 := 12#32
  let c11_i32 : BitVec 32 := 11#32
  let v23 : BitVec 1 := Scalar.cmpi .eq v2 c11_i32
  let c10_i32_8 : BitVec 32 := 10#32
  let c10_i32 : BitVec 32 := 10#32
  let v21 : BitVec 1 := Scalar.cmpi .eq v2 c10_i32
  let c5_i32_7 : BitVec 32 := 5#32
  let c9_i32_5 : BitVec 32 := 9#32
  let v19 : BitVec 1 := Scalar.cmpi .eq v2 c9_i32_5
  let c2_i32_6 : BitVec 32 := 2#32
  let c8_i32_4 : BitVec 32 := 8#32
  let v17 : BitVec 1 := Scalar.cmpi .eq v2 c8_i32_4
  let c13_i32 : BitVec 32 := 13#32
  let c7_i32_3 : BitVec 32 := 7#32
  let v15 : BitVec 1 := Scalar.cmpi .eq v2 c7_i32_3
  let c9_i32 : BitVec 32 := 9#32
  let c6_i32 : BitVec 32 := 6#32
  let v13 : BitVec 1 := Scalar.cmpi .eq v2 c6_i32
  let c6_i32_2 : BitVec 32 := 6#32
  let c5_i32 : BitVec 32 := 5#32
  let v11 : BitVec 1 := Scalar.cmpi .eq v2 c5_i32
  let c1_i32_1 : BitVec 32 := 1#32
  let c4_i32 : BitVec 32 := 4#32
  let v9 : BitVec 1 := Scalar.cmpi .eq v2 c4_i32
  let c14_i32 : BitVec 32 := 14#32
  let c3_i32 : BitVec 32 := 3#32
  let v7 : BitVec 1 := Scalar.cmpi .eq v2 c3_i32
  let c8_i32 : BitVec 32 := 8#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c15_i32 : BitVec 32 := 15#32
  let v4 : BitVec 32 := Scalar.select v3 c0_i32 c15_i32
  let v6 : BitVec 32 := Scalar.select v5 c7_i32 v4
  let v8 : BitVec 32 := Scalar.select v7 c8_i32 v6
  let v10 : BitVec 32 := Scalar.select v9 c14_i32 v8
  let v12 : BitVec 32 := Scalar.select v11 c1_i32_1 v10
  let v14 : BitVec 32 := Scalar.select v13 c6_i32_2 v12
  let v16 : BitVec 32 := Scalar.select v15 c9_i32 v14
  let v18 : BitVec 32 := Scalar.select v17 c13_i32 v16
  let v20 : BitVec 32 := Scalar.select v19 c2_i32_6 v18
  let v22 : BitVec 32 := Scalar.select v21 c5_i32_7 v20
  let v24 : BitVec 32 := Scalar.select v23 c10_i32_8 v22
  let v26 : BitVec 32 := Scalar.select v25 c12_i32_9 v24
  let v28 : BitVec 32 := Scalar.select v27 c3_i32_11 v26
  let v30 : BitVec 32 := Scalar.select v29 c4_i32_13 v28
  let v32 : BitVec 32 := Scalar.select v31 c11_i32_15 v30
  let c8_i32_2629 : BitVec 32 := 8#32
  let v3561 : BitVec 32 := Scalar.subi v32 c8_i32_2629
  let c16_i32_2630 : BitVec 32 := 16#32
  let c0_i32_2631 : BitVec 32 := 0#32
  let v3562 : BitVec 1 := Scalar.cmpi .eq c16_i32_2630 c0_i32_2631
  let c1_i32_2632 : BitVec 32 := 1#32
  let v3563 : BitVec 32 := Scalar.select v3562 c1_i32_2632 c16_i32_2630
  let v3564 : BitVec 32 := Scalar.remsi v3561 v3563
  let c0_i32_2634 : BitVec 32 := 0#32
  let v3566 : BitVec 1 := Scalar.cmpi .slt v3564 c0_i32_2634
  let c0_i32_2635 : BitVec 32 := 0#32
  let v3567 : BitVec 1 := Scalar.cmpi .slt v3563 c0_i32_2635
  let v3568 : BitVec 1 := Scalar.xori v3566 v3567
  let c0_i32_2633 : BitVec 32 := 0#32
  let v3565 : BitVec 1 := Scalar.cmpi .ne v3564 c0_i32_2633
  let v3569 : BitVec 1 := Scalar.andi v3568 v3565
  let v3570 : BitVec 32 := Scalar.addi v3564 v3563
  let v3571 : BitVec 32 := Scalar.select v3569 v3570 v3564
  let v3641 : BitVec 32 := Scalar.muli c2_i32_2688 v3571
  let c1_i32_2689 : BitVec 32 := 1#32
  let v3642 : BitVec 32 := Scalar.addi v3641 c1_i32_2689
  let c0_i32_2691 : BitVec 32 := 0#32
  let v3644 : BitVec 1 := Scalar.cmpi .sgt v3642 c0_i32_2691
  let v3645 : BitVec 32 := Scalar.extui v3644
  let c0_i32_2692 : BitVec 32 := 0#32
  let v3646 : BitVec 1 := Scalar.cmpi .slt v3642 c0_i32_2692
  let v3647 : BitVec 32 := Scalar.extui v3646
  let v3648 : BitVec 32 := Scalar.subi v3645 v3647
  let c2_i32_2690 : BitVec 32 := 2#32
  let c0_i32_2693 : BitVec 32 := 0#32
  let v3649 : BitVec 1 := Scalar.cmpi .sgt c2_i32_2690 c0_i32_2693
  let v3650 : BitVec 32 := Scalar.extui v3649
  let c0_i32_2694 : BitVec 32 := 0#32
  let v3651 : BitVec 1 := Scalar.cmpi .slt c2_i32_2690 c0_i32_2694
  let v3652 : BitVec 32 := Scalar.extui v3651
  let v3653 : BitVec 32 := Scalar.subi v3650 v3652
  let v3654 : BitVec 1 := Scalar.cmpi .ne v3648 v3653
  let v3655 : BitVec 32 := Scalar.remsi v3642 c2_i32_2690
  let c0_i32_2695 : BitVec 32 := 0#32
  let v3656 : BitVec 1 := Scalar.cmpi .ne v3655 c0_i32_2695
  let v3657 : BitVec 1 := Scalar.andi v3654 v3656
  let v3643 : BitVec 32 := Scalar.divsi v3642 c2_i32_2690
  let c1_i32_2696 : BitVec 32 := 1#32
  let v3658 : BitVec 32 := Scalar.subi v3643 c1_i32_2696
  let v3659 : BitVec 32 := Scalar.select v3657 v3658 v3643
  let c15_i32_2726 : BitVec 32 := 15#32
  let v3688 : BitVec 1 := Scalar.cmpi .eq v3659 c15_i32_2726
  let c0_i32_2727 : BitVec 32 := 0#32
  let c14_i32_2724 : BitVec 32 := 14#32
  let v3686 : BitVec 1 := Scalar.cmpi .eq v3659 c14_i32_2724
  let c4_i32_2725 : BitVec 32 := 4#32
  let c13_i32_2722 : BitVec 32 := 13#32
  let v3684 : BitVec 1 := Scalar.cmpi .eq v3659 c13_i32_2722
  let c8_i32_2723 : BitVec 32 := 8#32
  let c12_i32_2720 : BitVec 32 := 12#32
  let v3682 : BitVec 1 := Scalar.cmpi .eq v3659 c12_i32_2720
  let c12_i32_2721 : BitVec 32 := 12#32
  let c11_i32_2718 : BitVec 32 := 11#32
  let v3680 : BitVec 1 := Scalar.cmpi .eq v3659 c11_i32_2718
  let c15_i32_2719 : BitVec 32 := 15#32
  let c10_i32_2716 : BitVec 32 := 10#32
  let v3678 : BitVec 1 := Scalar.cmpi .eq v3659 c10_i32_2716
  let c11_i32_2717 : BitVec 32 := 11#32
  let c9_i32_2714 : BitVec 32 := 9#32
  let v3676 : BitVec 1 := Scalar.cmpi .eq v3659 c9_i32_2714
  let c7_i32_2715 : BitVec 32 := 7#32
  let c8_i32_2712 : BitVec 32 := 8#32
  let v3674 : BitVec 1 := Scalar.cmpi .eq v3659 c8_i32_2712
  let c3_i32_2713 : BitVec 32 := 3#32
  let c7_i32_2710 : BitVec 32 := 7#32
  let v3672 : BitVec 1 := Scalar.cmpi .eq v3659 c7_i32_2710
  let c2_i32_2711 : BitVec 32 := 2#32
  let c6_i32_2708 : BitVec 32 := 6#32
  let v3670 : BitVec 1 := Scalar.cmpi .eq v3659 c6_i32_2708
  let c6_i32_2709 : BitVec 32 := 6#32
  let c5_i32_2706 : BitVec 32 := 5#32
  let v3668 : BitVec 1 := Scalar.cmpi .eq v3659 c5_i32_2706
  let c10_i32_2707 : BitVec 32 := 10#32
  let c4_i32_2704 : BitVec 32 := 4#32
  let v3666 : BitVec 1 := Scalar.cmpi .eq v3659 c4_i32_2704
  let c14_i32_2705 : BitVec 32 := 14#32
  let c3_i32_2702 : BitVec 32 := 3#32
  let v3664 : BitVec 1 := Scalar.cmpi .eq v3659 c3_i32_2702
  let c13_i32_2703 : BitVec 32 := 13#32
  let c2_i32_2700 : BitVec 32 := 2#32
  let v3662 : BitVec 1 := Scalar.cmpi .eq v3659 c2_i32_2700
  let c9_i32_2701 : BitVec 32 := 9#32
  let c1_i32_2697 : BitVec 32 := 1#32
  let v3660 : BitVec 1 := Scalar.cmpi .eq v3659 c1_i32_2697
  let c5_i32_2698 : BitVec 32 := 5#32
  let c1_i32_2699 : BitVec 32 := 1#32
  let v3661 : BitVec 32 := Scalar.select v3660 c5_i32_2698 c1_i32_2699
  let v3663 : BitVec 32 := Scalar.select v3662 c9_i32_2701 v3661
  let v3665 : BitVec 32 := Scalar.select v3664 c13_i32_2703 v3663
  let v3667 : BitVec 32 := Scalar.select v3666 c14_i32_2705 v3665
  let v3669 : BitVec 32 := Scalar.select v3668 c10_i32_2707 v3667
  let v3671 : BitVec 32 := Scalar.select v3670 c6_i32_2709 v3669
  let v3673 : BitVec 32 := Scalar.select v3672 c2_i32_2711 v3671
  let v3675 : BitVec 32 := Scalar.select v3674 c3_i32_2713 v3673
  let v3677 : BitVec 32 := Scalar.select v3676 c7_i32_2715 v3675
  let v3679 : BitVec 32 := Scalar.select v3678 c11_i32_2717 v3677
  let v3681 : BitVec 32 := Scalar.select v3680 c15_i32_2719 v3679
  let v3683 : BitVec 32 := Scalar.select v3682 c12_i32_2721 v3681
  let v3685 : BitVec 32 := Scalar.select v3684 c8_i32_2723 v3683
  let v3687 : BitVec 32 := Scalar.select v3686 c4_i32_2725 v3685
  let v3689 : BitVec 32 := Scalar.select v3688 c0_i32_2727 v3687
  let c256_i32_2728 : BitVec 32 := 256#32
  let v3690 : BitVec 32 := Scalar.muli v3689 c256_i32_2728
  let c2_i32_2729 : BitVec 32 := 2#32
  let c0_i32_2730 : BitVec 32 := 0#32
  let v3691 : BitVec 1 := Scalar.cmpi .eq c2_i32_2729 c0_i32_2730
  let c1_i32_2731 : BitVec 32 := 1#32
  let v3692 : BitVec 32 := Scalar.select v3691 c1_i32_2731 c2_i32_2729
  let v3693 : BitVec 32 := Scalar.remsi v3642 v3692
  let c0_i32_2733 : BitVec 32 := 0#32
  let v3695 : BitVec 1 := Scalar.cmpi .slt v3693 c0_i32_2733
  let c0_i32_2734 : BitVec 32 := 0#32
  let v3696 : BitVec 1 := Scalar.cmpi .slt v3692 c0_i32_2734
  let v3697 : BitVec 1 := Scalar.xori v3695 v3696
  let c0_i32_2732 : BitVec 32 := 0#32
  let v3694 : BitVec 1 := Scalar.cmpi .ne v3693 c0_i32_2732
  let v3698 : BitVec 1 := Scalar.andi v3697 v3694
  let v3699 : BitVec 32 := Scalar.addi v3693 v3692
  let v3700 : BitVec 32 := Scalar.select v3698 v3699 v3693
  let c128_i32_2735 : BitVec 32 := 128#32
  let v3701 : BitVec 32 := Scalar.muli v3700 c128_i32_2735
  let v3702 : BitVec 32 := Scalar.addi v3690 v3701
  let v3709 : Index := Scalar.indexCast v3702
  let c0_2740 : Index := 0#32
  ![v3709.toNat, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.ShapeIdeal.lean ====
module

public import proofs.«01_k».proof.Proof.Gen.KernelIdeal
public import proofs.«01_k».proof.Proof.Gen.KernelIdeal.Skeleton

/-! # The kernel body, hop by hop

The printed body is cut into parts at arbitrary places.  Here it is put together again as the kernel is written: a
prologue, eight hops around the ring (the first and the last of their own shape, the six in between alike) and the product
of the last block.  `body_eq` says that this program is the printed one. -/

@[expose] public section

set_option synthInstance.maxSize 4096

noncomputable section

namespace Cert.KernelIdeal.Hop

open Idealize.ShloMosaic Idealize.SL.Sem
open Cert.KernelIdeal.Gen

variable {F : FTy → Type} [FloatOps F]

/-- The effects of a TensorCore program of this kernel. -/
abbrev Pg (F : FTy → Type) (α : Type) := Prog (TpuEff nD τ sig (Elt F) Λ₀ .tc) α

/-- Where a half-slot of the gather buffer may lie. -/
abbrev Inb3 (o : Fin 3 → Nat) : Prop := ∀ a, o a + S1x128x4096.size a ≤ S32x128x4096.size a
/-- Where one semaphore of an array of 32 may lie. -/
abbrev Inb1 (o : Fin 1 → Nat) : Prop := ∀ a, o a + S1.size a ≤ S32.size a
/-- Where a block of 128 result rows may lie. -/
abbrev Inb2 (o : Fin 2 → Nat) : Prop := ∀ a, o a + S128x128.size a ≤ S4096x128.size a
/-- A half-slot at `o` covers whole words. -/
abbrev Words (o : Fin 3 → Nat) (h : Inb3 o) : Prop :=
  (Rect.unit (s := S32x128x4096) o S1x128x4096.size h).WholeWords (EltTy.packing .bf16)

/-- One semaphore of an array. -/
abbrev semAt (A : DmaSems sig S32) (o : Fin 1 → Nat) (h : Inb1 o) : DmaSems sig S_ :=
  (A.slice (Rect.unit (s := S32) o S1.size h)).squeeze S_ squeezes_S1_S_
/-- One half-slot of the gather buffer. -/
abbrev halfAt (G : Memref sig .tc .vmem S32x128x4096 .bf16) (o : Fin 3 → Nat) (h : Inb3 o) : Memref sig .tc .vmem S128x4096 .bf16 :=
  (G.slice (Rect.unit (s := S32x128x4096) o S1x128x4096.size h) (fun _ => rfl)).squeeze S128x4096 squeezes_S1x128x4096_S128x4096

section Ops
variable (O : Memref sig .tc .vmem S4096x128 .f32) (G : Memref sig .tc .vmem S32x128x4096 .bf16) (hG : G.IsWhole)

/-- Start the copy of the half-slot at `o` to device `n`'s half-slot at `o`, on the semaphores at `q` of `A` (sent) and `B`
    (received). -/
abbrev sendOp (A B : DmaSems sig S32) (n : Dev nD) (q : Fin 1 → Nat) (hq : Inb1 q) (o : Fin 3 → Nat) (ho : Inb3 o) (hw : Words o ho) : Pg F PUnit :=
  Prog.lift (.enqueueDma (halfAt G o ho) (.remote (Dev.tc n) (halfAt G o ho) (.dma (semAt A q hq).sem)) (.dma (semAt B q hq).sem)
    ((hG.wordExact_slice rfl _ hw).reshape _ _) ((hG.wordExact_slice rfl _ hw).reshape _ _) ⟨⟨rfl, Or.inl rfl⟩, trivial⟩)

/-- Wait for a half-slot's credit on the semaphore at `q` of `A`. -/
abbrev waitOp (A : DmaSems sig S32) (q : Fin 1 → Nat) (hq : Inb1 q) (o : Fin 3 → Nat) (ho : Inb3 o) (hw : Words o ho) : Pg F PUnit :=
  Prog.lift (.waitDma2 (semAt A q hq).sem (halfAt G o ho) (halfAt G o ho)
    ((hG.wordExact_slice rfl _ hw).reshape _ _) ((hG.wordExact_slice rfl _ hw).reshape _ _))

/-- Multiply the half-slot at `o` by the weights and store the clipped product in the result rows at `e`. -/
abbrev gemmOp (w : FVec F S4096x128 .bf16) (o : Fin 3 → Nat) (ho : Inb3 o) (e : Fin 2 → Nat) (he : Inb2 e) : Pg F PUnit := do
  let v : Vec F S1x128x4096 .bf16 ← Prog.lift (.load G (Rect.unit (s := S32x128x4096) o S1x128x4096.size ho).toLoadRect (View.loadsAt_vmem h_S1x128x4096))
  let _u : Vec F S128x128 .f32 ← Prog.lift (.load O (Rect.unit (s := S4096x128) e S128x128.size he).toLoadRect (View.loadsAt_vmem h_S128x128))
  Prog.lift (.store O (Rect.unit (s := S4096x128) e S128x128.size he) (k0_pay3 w v) Finset.univ (View.stores_vmem_bits_univ h_S128x128 rfl) (.inl rfl))

end Ops

variable (X : Memref sig .tc .vmem S256x4096 .bf16) (hX : X.IsWhole) (W : Memref sig .tc .vmem S4096x128 .bf16) (hW : W.IsWhole)
  (O : Memref sig .tc .vmem S4096x128 .f32) (hO : O.IsWhole) (G : Memref sig .tc .vmem S32x128x4096 .bf16) (hG : G.IsWhole)
  (A B C D : DmaSems sig S32)

/-- The semaphore of the handshake before the first copy. -/
abbrev barSems : Sems sig S_ := SemArray.scalar (sig.barrier 0 rfl)

/-- The prologue: handshake with both neighbours, read the weights and the own block, put the block in its slot. -/
def prologue (c : Dev nD) : Pg F (FVec F S4096x128 .bf16) := do
  semSignalWord (⟨k0_dev1 c, k0_dev1_lt c⟩ : Dev nD) barSems.sem 1#32
  semSignalWord (⟨k0_dev2 c, k0_dev2_lt c⟩ : Dev nD) barSems.sem 1#32
  semWaitWord barSems.sem 2#32
  let w : Vec F S4096x128 .bf16 ← Prog.lift (.load W (Rect.unit (s := S4096x128) ![0, 0] S4096x128.size inb_S4096x128_S4096x128_0_0).toLoadRect (View.loadsAt_vmem h_S4096x128))
  let x : Vec F S256x4096 .bf16 ← Prog.lift (.load X (Rect.unit (s := S256x4096) ![0, 0] S256x4096.size inb_S256x4096_S256x4096_0_0).toLoadRect (View.loadsAt_vmem h_S256x4096))
  let _u : Vec F S2x128x4096 .bf16 ← Prog.lift (.load G (Rect.unit (s := S32x128x4096) (k0_off1 c) S2x128x4096.size (k0_off1_inb c)).toLoadRect (View.loadsAt_vmem h_S2x128x4096))
  Prog.lift (.store G (Rect.unit (s := S32x128x4096) (k0_off1 c) S2x128x4096.size (k0_off1_inb c)) (k0_pay2 x) Finset.univ (View.stores_vmem h_S2x128x4096 (hG.storeExact_slice rfl _ (k0_off1_packedbf16 c)) (fun _ => rfl)) (.inl rfl))
  pure (k0_pay1 w)

/-- The two devices a device sends to. -/
abbrev devR (c : Dev nD) : Dev nD := ⟨k0_dev3 c, k0_dev3_lt c⟩
abbrev devL (c : Dev nD) : Dev nD := ⟨k0_dev4 c, k0_dev4_lt c⟩

/-- The four sends of hop `i + 1`, for the first seven hops. -/
def sends (c : Dev nD) (i : Fin 7) : Pg F PUnit := do
  sendOp G hG A B (devR c) _ (k0_off2_inb c i.castSucc) _ (k0_off3_inb c i.castSucc) (k0_off3_wordsbf16 c i.castSucc)
  sendOp G hG C D (devL c) _ (k0_off4_inb c i.castSucc) _ (k0_off5_inb c i.castSucc) (k0_off5_wordsbf16 c i.castSucc)
  sendOp G hG A B (devR c) _ (k0_off6_inb c i) _ (k0_off7_inb c i) (k0_off7_wordsbf16 c i)
  sendOp G hG C D (devL c) _ (k0_off8_inb c i) _ (k0_off9_inb c i) (k0_off9_wordsbf16 c i)

/-- The eight waits of hop `i + 1`, for the first seven hops: what arrives, then what was sent. -/
def waits (c : Dev nD) (i : Fin 7) : Pg F PUnit := do
  waitOp G hG B _ (k0_off14_inb c i.castSucc) _ (k0_off15_inb c i.castSucc) (k0_off15_wordsbf16 c i.castSucc)
  waitOp G hG D _ (k0_off16_inb c i.castSucc) _ (k0_off17_inb c i.castSucc) (k0_off17_wordsbf16 c i.castSucc)
  waitOp G hG B _ (k0_off18_inb c i) _ (k0_off19_inb c i) (k0_off19_wordsbf16 c i)
  waitOp G hG D _ (k0_off20_inb c i) _ (k0_off21_inb c i) (k0_off21_wordsbf16 c i)
  waitOp G hG A _ (k0_off2_inb c i.castSucc) _ (k0_off3_inb c i.castSucc) (k0_off3_wordsbf16 c i.castSucc)
  waitOp G hG C _ (k0_off4_inb c i.castSucc) _ (k0_off5_inb c i.castSucc) (k0_off5_wordsbf16 c i.castSucc)
  waitOp G hG A _ (k0_off6_inb c i) _ (k0_off7_inb c i) (k0_off7_wordsbf16 c i)
  waitOp G hG C _ (k0_off8_inb c i) _ (k0_off9_inb c i) (k0_off9_wordsbf16 c i)

/-- The products of the own block. -/
def gemmOwn (w : FVec F S4096x128 .bf16) (c : Dev nD) : Pg F PUnit := do
  gemmOp O G w _ (k0_off10_inb c) _ (k0_off11_inb c)
  gemmOp O G w _ (k0_off12_inb c) _ (k0_off13_inb c)

/-- The products of hop `i + 2`: the two blocks that arrived in the hop before. -/
def gemms (w : FVec F S4096x128 .bf16) (c : Dev nD) (i : Fin 7) : Pg F PUnit := do
  gemmOp O G w _ (k0_off22_inb c i) _ (k0_off23_inb c i)
  gemmOp O G w _ (k0_off24_inb c i) _ (k0_off25_inb c i)
  gemmOp O G w _ (k0_off26_inb c i) _ (k0_off27_inb c i)
  gemmOp O G w _ (k0_off28_inb c i) _ (k0_off29_inb c i)

/-- The products of the block opposite. -/
def gemmLast (w : FVec F S4096x128 .bf16) (c : Dev nD) : Pg F PUnit := do
  gemmOp O G w _ (k0_off30_inb c) _ (k0_off31_inb c)
  gemmOp O G w _ (k0_off32_inb c) _ (k0_off33_inb c)

/-- The first hop. -/
def hopFirst (w : FVec F S4096x128 .bf16) (c : Dev nD) : Pg F PUnit := do
  sends G hG A B C D c 0
  gemmOwn O G w c
  waits G hG A B C D c 0

/-- Hop `i + 2`, one of the six in between. -/
def hopMid (w : FVec F S4096x128 .bf16) (c : Dev nD) (i : Fin 6) : Pg F PUnit := do
  sends G hG A B C D c i.succ
  gemms O G w c i.castSucc
  waits G hG A B C D c i.succ

/-- The last hop: one half each way. -/
def hopLast (w : FVec F S4096x128 .bf16) (c : Dev nD) : Pg F PUnit := do
  sendOp G hG A B (devR c) _ (k0_off2_inb c 7) _ (k0_off3_inb c 7) (k0_off3_wordsbf16 c 7)
  sendOp G hG C D (devL c) _ (k0_off4_inb c 7) _ (k0_off5_inb c 7) (k0_off5_wordsbf16 c 7)
  gemms O G w c 6
  waitOp G hG B _ (k0_off14_inb c 7) _ (k0_off15_inb c 7) (k0_off15_wordsbf16 c 7)
  waitOp G hG D _ (k0_off16_inb c 7) _ (k0_off17_inb c 7) (k0_off17_wordsbf16 c 7)
  waitOp G hG A _ (k0_off2_inb c 7) _ (k0_off3_inb c 7) (k0_off3_wordsbf16 c 7)
  waitOp G hG C _ (k0_off4_inb c 7) _ (k0_off5_inb c 7) (k0_off5_wordsbf16 c 7)

/-- The whole body. -/
def body : Pg F PUnit := do
  let c : Dev nD ← Prog.lift .deviceId
  let w ← prologue X W G hG c
  hopFirst O G hG A B C D w c
  hopMid O G hG A B C D w c 0
  hopMid O G hG A B C D w c 1
  hopMid O G hG A B C D w c 2
  hopMid O G hG A B C D w c 3
  hopMid O G hG A B C D w c 4
  hopMid O G hG A B C D w c 5
  hopLast O G hG A B C D w c
  gemmLast O G w c

set_option maxHeartbeats 2000000 in
set_option maxRecDepth 65536 in
/-- The printed body is `body`: the parts are unfolded and their effects put one after the other, on both sides. -/
theorem body_eq : cc0_body (F := F) X hX W hW O hO G hG A B C D = body X W O G hG A B C D := by
  rw [cc0_body_eq_skeleton]
  unfold cc0_body_skel
  simp only [
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton,
    k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton,
    k0_part76_eq_skeleton, k0_part77_eq_skeleton, k0_part78_eq_skeleton, k0_part79_eq_skeleton, k0_part80_eq_skeleton,
    k0_part81_eq_skeleton, k0_part82_eq_skeleton, k0_part83_eq_skeleton, k0_part84_eq_skeleton, k0_part85_eq_skeleton,
    k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton,
    k0_part96_eq_skeleton, k0_part97_eq_skeleton, k0_part98_eq_skeleton, k0_part99_eq_skeleton,
    k0_part100_eq_skeleton, k0_part101_eq_skeleton, k0_part102_eq_skeleton, k0_part103_eq_skeleton,
    k0_part104_eq_skeleton, k0_part105_eq_skeleton, k0_part106_eq_skeleton, k0_part107_eq_skeleton,
    k0_part108_eq_skeleton, k0_part109_eq_skeleton, k0_part110_eq_skeleton, k0_part111_eq_skeleton]
  simp only [
    k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    k0_part15_skel, k0_part16_skel, k0_part17_skel, k0_part18_skel, k0_part19_skel, k0_part20_skel, k0_part21_skel,
    k0_part22_skel, k0_part23_skel, k0_part24_skel, k0_part25_skel, k0_part26_skel, k0_part27_skel, k0_part28_skel,
    k0_part29_skel, k0_part30_skel, k0_part31_skel, k0_part32_skel, k0_part33_skel, k0_part34_skel, k0_part35_skel,
    k0_part36_skel, k0_part37_skel, k0_part38_skel, k0_part39_skel, k0_part40_skel, k0_part41_skel, k0_part42_skel,
    k0_part43_skel, k0_part44_skel, k0_part45_skel, k0_part46_skel, k0_part47_skel, k0_part48_skel, k0_part49_skel,
    k0_part50_skel, k0_part51_skel, k0_part52_skel, k0_part53_skel, k0_part54_skel, k0_part55_skel, k0_part56_skel,
    k0_part57_skel, k0_part58_skel, k0_part59_skel, k0_part60_skel, k0_part61_skel, k0_part62_skel, k0_part63_skel,
    k0_part64_skel, k0_part65_skel, k0_part66_skel, k0_part67_skel, k0_part68_skel, k0_part69_skel, k0_part70_skel,
    k0_part71_skel, k0_part72_skel, k0_part73_skel, k0_part74_skel, k0_part75_skel, k0_part76_skel, k0_part77_skel,
    k0_part78_skel, k0_part79_skel, k0_part80_skel, k0_part81_skel, k0_part82_skel, k0_part83_skel, k0_part84_skel,
    k0_part85_skel, k0_part86_skel, k0_part87_skel, k0_part88_skel, k0_part89_skel, k0_part90_skel, k0_part91_skel,
    k0_part92_skel, k0_part93_skel, k0_part94_skel, k0_part95_skel, k0_part96_skel, k0_part97_skel, k0_part98_skel,
    k0_part99_skel, k0_part100_skel, k0_part101_skel, k0_part102_skel, k0_part103_skel, k0_part104_skel,
    k0_part105_skel, k0_part106_skel, k0_part107_skel, k0_part108_skel, k0_part109_skel, k0_part110_skel,
    k0_part111_skel]
  simp only [body, prologue, hopFirst, hopMid, hopLast, gemmLast, sends, waits, gemms, gemmOwn, sendOp, waitOp, gemmOp,
    Prog.lift, Prog.bind_op, Prog.bind_ret, Prog.pure_eq_ret]
  rfl

end Cert.KernelIdeal.Hop

end
-- ==== Proof.RingIdeal.lean ====
module

public import proofs.«01_k».proof.Proof.ShapeIdeal
public import proofs.«01_k».proof.Proof.Gen.KernelIdeal.Launch
public import proofs.«01_k».proof.Proof.Gen.KernelIdeal.Points
public import Idealize.ShloMosaic.Lib.ValueIdxCore
public import Idealize.ShloMosaic.Lib.Ring
public import Idealize.ShloMosaic.Lib.Exec

/-! # The ring, its half-slots and its semaphores

Every device has a position on the ring and two neighbours.  The gather buffer has 32 half-slots, two for each ring position;
each direction (`true` is clockwise, to the right) moves 15 of them out of a device and 15 into it, numbered by a step `t`.
The printed offset and device chains are read off here in these terms, each decided over the devices and the hops. -/

@[expose] public section

noncomputable section

namespace Cert.KernelIdeal.Hop

open Idealize.ShloMosaic Idealize.ShloMosaic.TcCoe
open Idealize.SL Idealize.SL.RA Idealize.SL.BI Idealize.SL.Sem
open Cert.KernelIdeal.Gen

/-! ## Positions and neighbours -/

/-- The device at each ring position. -/
def rg : Fin 16 → Dev nD := ![1, 5, 9, 13, 14, 10, 6, 2, 3, 7, 11, 15, 12, 8, 4, 0]
/-- The ring position of each device. -/
def pos : Dev nD → Fin 16 := ![15, 0, 7, 8, 14, 1, 6, 9, 13, 2, 5, 10, 12, 3, 4, 11]
/-- The neighbour in direction `d`. -/
def nb (d : Bool) (c : Dev nD) : Dev nD := rg (if d then pos c + 1 else pos c + 15)

theorem pos_rg : ∀ p, pos (rg p) = p := by decide
theorem rg_pos : ∀ c, rg (pos c) = c := by decide
theorem nb_nb : ∀ d c, nb (!d) (nb d c) = c := by decide
theorem nb_nb' : ∀ d c, nb d (nb (!d) c) = c := by decide
theorem pos_right : ∀ c, (pos (nb true c)).val = ((pos c).val + 1) % 16 := by decide
theorem pos_left : ∀ c, (pos (nb false c)).val = ((pos c).val + 15) % 16 := by decide
theorem nb_ne : ∀ c, nb true c ≠ nb false c := by decide

/-- Going to the neighbour in direction `d` is a permutation of the devices. -/
def nbE (d : Bool) : Dev nD ≃ Dev nD := ⟨nb d, nb (!d), nb_nb d, nb_nb' d⟩

/-! ## Half-slots -/

/-- The half-slot a device sends at step `t` in direction `d`. -/
def hsS (d : Bool) (c : Dev nD) (t : ℕ) : Fin 32 :=
  if d then ⟨2 * (((pos c).val + 15 * (t / 2)) % 16) + t % 2, by omega⟩
  else ⟨2 * (((pos c).val + t / 2) % 16) + (1 - t % 2), by omega⟩
/-- The half-slot a device receives at step `t` from the transfers in direction `d`. -/
def hsR (d : Bool) (c : Dev nD) (t : ℕ) : Fin 32 := hsS d c (t + 2)

/-- What a device sends is what its neighbour receives. -/
theorem hsR_nb (d : Bool) (c : Dev nD) (t : ℕ) : hsR d (nb d c) t = hsS d c t := by
  have h1 := pos_right c
  have h2 := pos_left c
  apply Fin.ext
  cases d <;> simp only [hsR, hsS, Bool.false_eq_true, if_false, if_true] <;> omega

theorem hsS_nb' (d : Bool) (c : Dev nD) (t : ℕ) : hsS d (nb (!d) c) t = hsR d c t := by
  rw [← hsR_nb, nb_nb']

/-- The half-slots a device ends up with: its own two, then what comes from either side. -/
def allHs (c : Dev nD) : List (Fin 32) :=
  hsS true c 0 :: hsS true c 1 :: ((List.range 15).map (hsR true c) ++ (List.range 15).map (hsR false c))
theorem allHs_nodup : ∀ c, (allHs c).Nodup := by decide +kernel
theorem allHs_mem : ∀ c hs, hs ∈ allHs c := by decide +kernel

theorem hsS_inj : ∀ d c (t t' : Fin 15), hsS d c t = hsS d c t' → t = t' := by decide +kernel
theorem hsR_inj : ∀ d c (t t' : Fin 15), hsR d c t = hsR d c t' → t = t' := by decide +kernel
theorem own_swap : ∀ c, hsS false c 0 = hsS true c 1 ∧ hsS false c 1 = hsS true c 0 := by decide

/-- How many blocks away a half-slot's origin is, against direction `d`. -/
def dist (d : Bool) (c : Dev nD) (hs : Fin 32) : ℕ :=
  if d then ((pos c).val + 16 - hs.val / 2) % 16 else (hs.val / 2 + 16 - (pos c).val) % 16
theorem dist_hsR (d : Bool) (c : Dev nD) (t : ℕ) (ht : t < 15) : dist d c (hsR d c t) = t / 2 + 1 := by
  have := (pos c).isLt
  cases d <;> simp only [dist, hsR, hsS, Bool.false_eq_true, if_false, if_true] <;> omega

/-! ## Offsets of half-slots, and of their rows in the result -/

/-- A half-slot's place in the gather buffer. -/
abbrev o3 (hs : Fin 32) : Fin 3 → ℕ := ![hs.val, 0, 0]
/-- A half-slot's place in a semaphore array. -/
abbrev o1 (hs : Fin 32) : Fin 1 → ℕ := ![hs.val]
/-- The first result row of a half-slot. -/
def row (hs : Fin 32) : ℕ := (rg ⟨hs.val / 2, by omega⟩).val * 256 + (hs.val % 2) * 128
/-- The rows of a half-slot in the result. -/
abbrev o2 (hs : Fin 32) : Fin 2 → ℕ := ![row hs, 0]

/-- The half-slot a result row belongs to. -/
def hsRow (r : Fin 4096) : Fin 32 :=
  ⟨2 * (pos ⟨r.val / 256, by have := r.isLt; show _ < 16; omega⟩).val + r.val % 256 / 128, by
    have := (pos ⟨r.val / 256, by have := r.isLt; show _ < 16; omega⟩).isLt; omega⟩
/-- A row belongs to the half-slot whose 128 rows hold it. -/
theorem hsRow_eq (r : Fin 4096) (hs : Fin 32) : hsRow r = hs ↔ row hs ≤ r.val ∧ r.val < row hs + 128 := by
  have hr := r.isLt
  constructor
  · rintro rfl
    have h1 : (⟨(hsRow r).val / 2, by omega⟩ : Fin 16) = pos ⟨r.val / 256, by show _ < 16; omega⟩ := Fin.ext (by simp only [hsRow]; omega)
    have h2 : (hsRow r).val % 2 = r.val % 256 / 128 := by simp only [hsRow]; omega
    unfold row
    rw [h1, rg_pos, h2]
    simp only
    omega
  · intro h
    have h2 : r.val / 256 = (rg ⟨hs.val / 2, by omega⟩).val := by unfold row at h; omega
    have h1 : (⟨r.val / 256, by show _ < 16; omega⟩ : Dev nD) = rg ⟨hs.val / 2, by omega⟩ := Fin.ext h2
    apply Fin.ext
    simp only [hsRow]
    rw [h1, pos_rg]
    simp only
    unfold row at h
    omega

theorem inb3 : ∀ hs, Inb3 (o3 hs) := by decide
theorem inb1 : ∀ hs, Inb1 (o1 hs) := by decide
theorem inb2 : ∀ hs, Inb2 (o2 hs) := by decide

/-! ## The printed chains -/

theorem dev1_eq : ∀ c, (⟨k0_dev1 c, k0_dev1_lt c⟩ : Dev nD) = nb false c := by decide +kernel
theorem dev2_eq : ∀ c, (⟨k0_dev2 c, k0_dev2_lt c⟩ : Dev nD) = nb true c := by decide +kernel
theorem devR_eq : ∀ c, devR c = nb true c := by decide +kernel
theorem devL_eq : ∀ c, devL c = nb false c := by decide +kernel
theorem off1_eq : ∀ c, k0_off1 c = ![2 * (pos c).val, 0, 0] := by decide +kernel
theorem off2_eq : ∀ c (r : Fin 8), k0_off2 c (BitVec.ofNat 32 (1 + r.val)) = o1 (hsS true c (2 * r.val)) := by decide +kernel
theorem off3_eq : ∀ c (r : Fin 8), k0_off3 c (BitVec.ofNat 32 (1 + r.val)) = o3 (hsS true c (2 * r.val)) := by decide +kernel
theorem off4_eq : ∀ c (r : Fin 8), k0_off4 c (BitVec.ofNat 32 (1 + r.val)) = o1 (hsS false c (2 * r.val)) := by decide +kernel
theorem off5_eq : ∀ c (r : Fin 8), k0_off5 c (BitVec.ofNat 32 (1 + r.val)) = o3 (hsS false c (2 * r.val)) := by decide +kernel
theorem off6_eq : ∀ c (r : Fin 7), k0_off6 c (BitVec.ofNat 32 (1 + r.val)) = o1 (hsS true c (2 * r.val + 1)) := by decide +kernel
theorem off7_eq : ∀ c (r : Fin 7), k0_off7 c (BitVec.ofNat 32 (1 + r.val)) = o3 (hsS true c (2 * r.val + 1)) := by decide +kernel
theorem off8_eq : ∀ c (r : Fin 7), k0_off8 c (BitVec.ofNat 32 (1 + r.val)) = o1 (hsS false c (2 * r.val + 1)) := by decide +kernel
theorem off9_eq : ∀ c (r : Fin 7), k0_off9 c (BitVec.ofNat 32 (1 + r.val)) = o3 (hsS false c (2 * r.val + 1)) := by decide +kernel
theorem off14_eq : ∀ c (r : Fin 8), k0_off14 c (BitVec.ofNat 32 (1 + r.val)) = o1 (hsR true c (2 * r.val)) := by decide +kernel
theorem off15_eq : ∀ c (r : Fin 8), k0_off15 c (BitVec.ofNat 32 (1 + r.val)) = o3 (hsR true c (2 * r.val)) := by decide +kernel
theorem off16_eq : ∀ c (r : Fin 8), k0_off16 c (BitVec.ofNat 32 (1 + r.val)) = o1 (hsR false c (2 * r.val)) := by decide +kernel
theorem off17_eq : ∀ c (r : Fin 8), k0_off17 c (BitVec.ofNat 32 (1 + r.val)) = o3 (hsR false c (2 * r.val)) := by decide +kernel
theorem off18_eq : ∀ c (r : Fin 7), k0_off18 c (BitVec.ofNat 32 (1 + r.val)) = o1 (hsR true c (2 * r.val + 1)) := by decide +kernel
theorem off19_eq : ∀ c (r : Fin 7), k0_off19 c (BitVec.ofNat 32 (1 + r.val)) = o3 (hsR true c (2 * r.val + 1)) := by decide +kernel
theorem off20_eq : ∀ c (r : Fin 7), k0_off20 c (BitVec.ofNat 32 (1 + r.val)) = o1 (hsR false c (2 * r.val + 1)) := by decide +kernel
theorem off21_eq : ∀ c (r : Fin 7), k0_off21 c (BitVec.ofNat 32 (1 + r.val)) = o3 (hsR false c (2 * r.val + 1)) := by decide +kernel

theorem off10_eq : ∀ c, k0_off10 c = o3 (hsS true c 0) := by decide +kernel
theorem off11_eq : ∀ c, k0_off11 c = o2 (hsS true c 0) := by decide +kernel
theorem off12_eq : ∀ c, k0_off12 c = o3 (hsS true c 1) := by decide +kernel
theorem off13_eq : ∀ c, k0_off13 c = o2 (hsS true c 1) := by decide +kernel
theorem off22_eq : ∀ c (r : Fin 7), k0_off22 c (BitVec.ofNat 32 (2 + r.val)) = o3 (hsR true c (2 * r.val)) := by decide +kernel
theorem off23_eq : ∀ c (r : Fin 7), k0_off23 c (BitVec.ofNat 32 (2 + r.val)) = o2 (hsR true c (2 * r.val)) := by decide +kernel
theorem off24_eq : ∀ c (r : Fin 7), k0_off24 c (BitVec.ofNat 32 (2 + r.val)) = o3 (hsR true c (2 * r.val + 1)) := by decide +kernel
theorem off25_eq : ∀ c (r : Fin 7), k0_off25 c (BitVec.ofNat 32 (2 + r.val)) = o2 (hsR true c (2 * r.val + 1)) := by decide +kernel
theorem off26_eq : ∀ c (r : Fin 7), k0_off26 c (BitVec.ofNat 32 (2 + r.val)) = o3 (hsR false c (2 * r.val + 1)) := by decide +kernel
theorem off27_eq : ∀ c (r : Fin 7), k0_off27 c (BitVec.ofNat 32 (2 + r.val)) = o2 (hsR false c (2 * r.val + 1)) := by decide +kernel
theorem off28_eq : ∀ c (r : Fin 7), k0_off28 c (BitVec.ofNat 32 (2 + r.val)) = o3 (hsR false c (2 * r.val)) := by decide +kernel
theorem off29_eq : ∀ c (r : Fin 7), k0_off29 c (BitVec.ofNat 32 (2 + r.val)) = o2 (hsR false c (2 * r.val)) := by decide +kernel
theorem off30_eq : ∀ c, k0_off30 c = o3 (hsR true c 14) := by decide +kernel
theorem off31_eq : ∀ c, k0_off31 c = o2 (hsR true c 14) := by decide +kernel
theorem off32_eq : ∀ c, k0_off32 c = o3 (hsR false c 14) := by decide +kernel
theorem off33_eq : ∀ c, k0_off33 c = o2 (hsR false c 14) := by decide +kernel

end Cert.KernelIdeal.Hop

end
-- ==== Proof.ProtIdeal.lean ====
module

public import proofs.«01_k».proof.Proof.RingIdeal
public import Idealize.ShloMosaic.Lib.Pipeline.Launch
public import Idealize.ShloMosaic.Lib.Pipeline.Kit
public import Idealize.ShloMosaic.Lib.Tactic

/-! # The protocol

Who waits on which semaphore, who pays it, and what a payment hands over.

* The entry semaphore of a device is paid one unit by each neighbour; the neighbour in direction `d` hands over the 15
  half-slots of its own gather buffer that the device will write.
* The receive semaphore of a half-slot is paid by the transfer into that half-slot, which hands over the half-slot holding the
  block half it is named after.
* The send semaphore of a half-slot is paid by the transfer out of it, which hands the lent share of the half-slot back.

The contents of a half-slot depend on its number alone, so one function names the gather buffer's contents on every device. -/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

/-! ## The resource algebra -/

/-- The ring's share of the ghost state: rounds with two duties. -/
abbrev UB : Type := URounds (GSem nD τ sig) Bool
/-- The pipeline's share and the ring's. -/
abbrev UU : Type := UR sig nD τ × UB

local notation "𝕄" => MT nD τ sig Unit (Elt F) ℕ UU ℕ

/-- The pipeline's component. -/
abbrev EP : Emb (UR sig nD τ) (MT nD τ sig Unit (Elt F) ℕ UU ℕ) := embL
/-- The ring's component. -/
abbrev ER : Emb UB (MT nD τ sig Unit (Elt F) ℕ UU ℕ) := embR

variable (m : (ℓ : Loc nD τ sig) → Buf (Elt F) ℓ)

/-! ## Buffers and contents -/

/-- The staged block of `x`. -/
abbrev xM : Memref sig .tc .vmem S256x4096 .bf16 := Memref.whole cc0_stg0_0
/-- The staged columns of `w`. -/
abbrev wM : Memref sig .tc .vmem S4096x128 .bf16 := Memref.whole cc0_stg1_0
/-- The staged result. -/
abbrev oM : Memref sig .tc .vmem S4096x128 .f32 := Memref.whole cc0_stg2_0
/-- The gather buffer. -/
abbrev gM : Memref sig .tc .vmem S32x128x4096 .bf16 := Memref.whole cc0_scratch0

/-- A device's block of `x`, as staged. -/
def xstg (c : Dev nD) : (cc0_stg0_0 : Ref sig .tc).ty.Contents (Elt F) :=
  (win0_0.blk (0 : Fin 1)).view.read (Elt F) (m ((c : Thread nD τ).loc main_arg0))
/-- A device's columns of `w`, as staged. -/
def wstg (c : Dev nD) : (cc0_stg1_0 : Ref sig .tc).ty.Contents (Elt F) :=
  (win0_1.blk (0 : Fin 1)).view.read (Elt F) (m ((c : Thread nD τ).loc main_arg1))

/-- The gather buffer when everything has arrived: half-slot `hs` holds half `hs % 2` of the block of the device at ring
    position `hs / 2`. -/
def commV : (cc0_scratch0 : Ref sig .tc).ty.Contents (Elt F) := fun i =>
  k0_pay2 (F := F) (xstg m (rg ⟨(i (0 : Fin 3)).val / 2, by have : (i (0 : Fin 3)).val < 32 := (i (0 : Fin 3)).isLt; omega⟩))
    (ix3 (n0 := 2) (n1 := 128) (n2 := 4096) ⟨(i (0 : Fin 3)).val % 2, Nat.mod_lt _ (by decide)⟩ (i (1 : Fin 3)) (i (2 : Fin 3)))

/-- One half-slot's contents, as a load of it gives them. -/
def halfV (hs : Fin 32) : Vec F S1x128x4096 .bf16 := fun i =>
  commV m (ix3 (n0 := 32) (n1 := 128) (n2 := 4096) hs (i (1 : Fin 3)) (i (2 : Fin 3)))

/-- The result on device `c`: in the rows of a half-slot, the clipped product of its contents and the device's columns. -/
def outT (c : Dev nD) : (cc0_stg2_0 : Ref sig .tc).ty.Contents (Elt F) := fun i =>
  k0_pay3 (F := F) (k0_pay1 (wstg m c)) (halfV m (hsRow (i (0 : Fin 2))))
    (ix2 (n0 := 128) (n1 := 128) ⟨(i (0 : Fin 2)).val % 128, Nat.mod_lt _ (by decide)⟩ (i (1 : Fin 2)))

/-! ## Semaphores -/

/-- The semaphore of half-slot `hs` in direction `d`: `s` says whether of what is received or of what is sent. -/
def semOf (s d : Bool) (hs : Fin 32) : DmaSem sig :=
  ⟨3 + 32 * (2 * (!d).toNat + s.toNat) + hs.val, by
    show _ < 131; have := hs.isLt; cases s <;> cases d <;> simp only [Bool.not_true, Bool.not_false, Bool.toNat_true, Bool.toNat_false] <;> omega⟩
/-- The array a semaphore lies in. -/
abbrev arr (s d : Bool) : DmaSems sig S32 :=
  match d, s with
  | true, false => cc0_scratch1 | true, true => cc0_scratch2 | false, false => cc0_scratch3 | false, true => cc0_scratch4
theorem semAt_eq : ∀ s d hs, (semAt (arr s d) (o1 hs) (inb1 hs)).sem = semOf s d hs := by decide +kernel

/-- Whether a semaphore is one of received half-slots; -/
def recvOf (q : DmaSem sig) : Bool := decide ((q.val - 3) / 32 % 2 = 1)
/-- its direction; -/
def dirOf (q : DmaSem sig) : Bool := decide ((q.val - 3) / 32 < 2)
/-- its half-slot. -/
def hsOf (q : DmaSem sig) : Fin 32 := ⟨(q.val - 3) % 32, Nat.mod_lt _ (by decide)⟩
theorem recvOf_sem : ∀ s d hs, recvOf (semOf s d hs) = s := by decide +kernel
theorem dirOf_sem : ∀ s d hs, dirOf (semOf s d hs) = d := by decide +kernel
theorem hsOf_sem : ∀ s d hs, hsOf (semOf s d hs) = hs := by decide +kernel

/-- The entry semaphore. -/
abbrev barS : Sem sig := barSems.sem
/-- A device's entry cell. -/
abbrev barC (c : Dev nD) : GSem nD τ sig := ((c : Thread nD τ), .reg barS)
/-- A device's cell of a half-slot. -/
abbrev cell (s d : Bool) (c : Dev nD) (hs : Fin 32) : GSem nD τ sig := ((c : Thread nD τ), .dma (semOf s d hs))

/-- The half-slot of step `t`: received or sent. -/
def hsC (s d : Bool) (c : Dev nD) (t : ℕ) : Fin 32 := if s then hsR d c t else hsS d c t

/-- What one transfer of a half-slot credits. -/
abbrev N : ℕ := (halfAt gM (o3 0) (inb3 0)).view.dmaCredit
theorem N_pos : 0 < N := View.dmaCredit_pos _ (by decide)

/-! ## Half-slots held -/

/-- A half-slot's elements. -/
def hset (hs : Fin 32) : Finset (S32x128x4096.Idx) := (Rect.unit (s := S32x128x4096) (o3 hs) S1x128x4096.size (inb3 hs)).set

/-- Half-slot `hs` of device `c` at a share and contents; -/
def slotAt (c : Dev nD) (hs : Fin 32) (q : PosShare TreeShare) (f : Buf (Elt F) ((c : Thread nD τ).loc cc0_scratch0)) : sProp 𝕄 :=
  ((c : Thread nD τ).loc cc0_scratch0) ↦[hset hs]{q} f
/-- holding what it is to hold; -/
def slot (c : Dev nD) (hs : Fin 32) (q : PosShare TreeShare) : sProp 𝕄 := slotAt c hs q (commV m)
/-- at any contents. -/
def slotAny (c : Dev nD) (hs : Fin 32) : sProp 𝕄 := iprop(∃ f, slotAt (F := F) c hs fullShare f)

omit [FloatOps F] in
instance slotAt_storable (c : Dev nD) (hs q f) : BI.Storable (upEmb : UEmb _ 𝕄) (slotAt (F := F) c hs q f) := by unfold slotAt; infer_instance
instance slot_storable (c : Dev nD) (hs q) : BI.Storable (upEmb : UEmb _ 𝕄) (slot (F := F) m c hs q) := by unfold slot; infer_instance
omit [FloatOps F] in
instance slotAny_storable (c : Dev nD) (hs) : BI.Storable (upEmb : UEmb _ 𝕄) (slotAny (F := F) c hs) := by unfold slotAny; infer_instance

/-! ## The schedule -/

/-- The share of a half-slot lent to a transfer in direction `d`: the two do not meet, a half-slot may go both ways. -/
def shr (d : Bool) : PosShare TreeShare := if d then fullShare.left else fullShare.right.left

/-- What the neighbour in direction `d` hands over at the entry: the half-slots the device will write. -/
def barPay (c : Dev nD) (d : Bool) : sProp 𝕄 := bigSep (Finset.range 15) fun t => slotAny (F := F) (nb d c) (hsS d c t)
/-- What a transfer hands over on a semaphore of half-slots. -/
def dmaPay (c : Dev nD) (q : DmaSem sig) : sProp 𝕄 :=
  if recvOf q then slot m c (hsOf q) fullShare else slot m c (hsOf q) (shr (dirOf q))

omit [FloatOps F] in
instance barPay_storable (c : Dev nD) (d) : BI.Storable (upEmb : UEmb _ 𝕄) (barPay (F := F) c d) := by unfold barPay; infer_instance
instance dmaPay_storable (c : Dev nD) (q) : BI.Storable (upEmb : UEmb _ 𝕄) (dmaPay (F := F) m c q) := by
  unfold dmaPay; split <;> infer_instance

/-- One round: an entry cell has a duty of one unit for each direction, a half-slot's cell one duty of `n` units. -/
def rdOf (n : ℕ) (hn : 0 < n) : Schedule (GSem nD τ sig) Bool 𝕄 where
  duties g r := if r = 0 then (match g.2 with | .reg _ => Finset.univ | .dma _ => {false}) else ∅
  unitless _ := False
  amount g _ _ := match g.2 with | .reg _ => 1 | .dma _ => n
  payload g _ d := match g.2 with | .reg _ => barPay g.1.1 d | .dma q => dmaPay m g.1.1 q
  amount_pos g _ _ _ := by
    rcases g with ⟨x, s | q⟩
    · exact Nat.one_pos
    · exact hn

theorem expect_rdOf (n : ℕ) (hn : 0 < n) (s d : Bool) (c : Dev nD) (hs : Fin 32) : (rdOf (F := F) m n hn).expect (cell s d c hs) 0 = n :=
  Finset.sum_singleton (fun _ : Bool => n) false

/-- The duties of a half-slot's cell are its credit. -/
def rd : Schedule (GSem nD τ sig) Bool 𝕄 := rdOf m N N_pos

instance rd_payload_storable (g : GSem nD τ sig) (r : ℕ) (d : Bool) :
    BI.Storable (upEmb : UEmb _ 𝕄) ((rd (F := F) m).payload g r d) := by
  rcases g with ⟨x, s | q⟩
  · show BI.Storable upEmb (barPay (F := F) x.1 d); infer_instance
  · show BI.Storable upEmb (dmaPay (F := F) m x.1 q); infer_instance

theorem duties_bar (c : Dev nD) : (rd (F := F) m).duties (barC c) 0 = Finset.univ := rfl
theorem duties_cell (s d c hs) : (rd (F := F) m).duties (cell s d c hs) 0 = {false} := rfl
theorem duties_later (g : GSem nD τ sig) : ∀ r, 1 ≤ r → (rd (F := F) m).duties g r = ∅ :=
  fun r hr => if_neg (by omega)
theorem expect_bar (c : Dev nD) : (rd (F := F) m).expect (barC c) 0 = 2 := rfl
theorem expect_cell (s d c hs) : (rd (F := F) m).expect (cell s d c hs) 0 = N :=
  expect_rdOf m N N_pos s d c hs
theorem payload_recv (d : Bool) (c : Dev nD) (hs) : (rd (F := F) m).payload (cell true d c hs) 0 false = slot m c hs fullShare := by
  show dmaPay m c _ = _
  unfold dmaPay; rw [recvOf_sem, hsOf_sem, if_pos rfl]
theorem payload_send (d : Bool) (c : Dev nD) (hs) : (rd (F := F) m).payload (cell false d c hs) 0 false = slot m c hs (shr d) := by
  show dmaPay m c _ = _
  unfold dmaPay; rw [recvOf_sem, hsOf_sem, dirOf_sem]; rfl
/-- What a wait on a cell of half-slots hands over. -/
theorem rest_cell (s d : Bool) (c : Dev nD) (hs) :
    bigSep ((rd (F := F) m).duties (cell s d c hs) 0 \ ∅) (fun x => (rd (F := F) m).payload (cell s d c hs) 0 x)
      = slot m c hs (if s then fullShare else shr d) := by
  rw [Finset.sdiff_empty, duties_cell, bigSep_singleton]
  cases s
  · rw [payload_send]; rfl
  · rw [payload_recv]; rfl
/-- What the wait at the entry hands over. -/
theorem rest_bar (c : Dev nD) :
    bigSep ((rd (F := F) m).duties (barC c) 0 \ ∅) (fun x => (rd (F := F) m).payload (barC c) 0 x) = iprop(barPay c true ∗ barPay c false) := by
  rw [Finset.sdiff_empty, duties_bar, bigSep_univ_eq_bigSepL [true, false] (by decide) (by decide), bigSepL_cons_cons, bigSepL_singleton]
  rfl

/-! ## Levels, and what is owed -/

/-- Every cell of a TensorCore has a level. -/
def L (g : GSem nD τ sig) : Finset Unit := if g.1.2 = .tc then {()} else ∅
/-- Entry cells at 1, receive cells by the hop that pays them, send and staging cells at 0. -/
def lv (g : GSem nD τ sig) (_ : Unit) : ℕ :=
  match g.2 with
  | .reg _ => 1
  | .dma q => if recvOf q then dist (dirOf q) g.1.1 (hsOf q) + 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (d : Bool) (c : Dev nD) (t : ℕ) (ht : t < 15) (u) : lv (cell true d c (hsR d c t)) u = t / 2 + 2 := by
  show (if recvOf _ then dist _ c _ + 1 else 0) = _
  rw [recvOf_sem, dirOf_sem, hsOf_sem, if_pos rfl, dist_hsR d c t ht]
theorem lv_send (d : Bool) (c : Dev nD) (hs) (u) : lv (cell false d c hs) u = 0 := by
  show (if recvOf _ then dist _ c _ + 1 else 0) = _
  rw [recvOf_sem]; rfl

/-- The credit owed for step `t` in direction `d`. -/
def due (d : Bool) (c : Dev nD) (t : ℕ) : CellTallies nD τ sig Unit := tallyAt (cell true d (nb d c) (hsS d c t)) () N
/-- What a device owes for the steps from `T` on. -/
def owe (c : Dev nD) (T : ℕ) : CellTallies nD τ sig Unit := ∑ t ∈ Finset.Ico T 15, (due false c t + due true c t)
/-- What a device owes at the start: every step, and a unit to each neighbour. -/
def O₀ (c : Dev nD) : CellTallies nD τ sig Unit := (owe c 0 + tallyAt (barC (nb true c)) () 1) + tallyAt (barC (nb false c)) () 1

theorem owe_step (c : Dev nD) (T : ℕ) (h : T < 15) : owe c T = (owe c (T + 1) + due false c T) + due true c T := by
  unfold owe; rw [Ring.sum_Ico_succ h]; ac_rfl
theorem owe_end (c : Dev nD) : owe c 15 = 0 := by unfold owe; rw [Finset.Ico_self, Finset.sum_empty]

theorem due_pos {d : Bool} {c : Dev nD} {t : ℕ} {g : GSem nD τ sig} {u : Unit} (h : 0 < due d c t g u) :
    g = cell true d (nb d c) (hsR d (nb d c) t) := by
  unfold due at h
  rw [tallyAt_apply] at h
  by_contra hn
  rw [if_neg (fun h' => hn (by rw [hsR_nb]; exact h'.1))] at h
  exact Nat.lt_irrefl 0 h

theorem owe_pos {c : Dev nD} {T : ℕ} {g : GSem nD τ sig} {u : Unit} (h : 0 < owe c T g u) :
    ∃ d t, T ≤ t ∧ t < 15 ∧ g = cell true d (nb d c) (hsR d (nb d c) t) := by
  unfold owe at h
  rw [Finset.sum_apply, Finsupp.finset_sum_apply] at h
  obtain ⟨t, ht, h⟩ := Finset.exists_ne_zero_of_sum_ne_zero h.ne'
  rw [Finset.mem_Ico] at ht
  rw [Pi.add_apply, Finsupp.add_apply] at h
  rcases Nat.eq_zero_or_pos (due true c t g u) with h0 | h0
  · exact ⟨false, t, ht.1, ht.2, due_pos (Nat.pos_of_ne_zero fun h1 => h (by rw [h0, h1, Nat.add_zero]))⟩
  · exact ⟨true, t, ht.1, ht.2, due_pos h0⟩

omit [FloatOps F] in
/-- A wait on a cell below every step still owed. -/
theorem mayWait_owe (c : Dev nD) (sm : SemLoc sig) (T : ℕ) (h : lv ((c : Thread nD τ), sm) () < T / 2 + 2) :
    (levAts L lv : sProp 𝕄) ⊢ MayWait (c : Thread nD τ) sm () (owe c T) :=
  MayOwe.of_cut (lv ((c : Thread nD τ), sm) ()) (fun p hp => by rw [Finset.mem_singleton.mp hp, L_tc]; exact Finset.mem_singleton_self _)
    (fun g u hg => by obtain ⟨d, t, -, -, rfl⟩ := owe_pos hg; exact Finset.mem_singleton_self _)
    (fun p hp => by rw [Finset.mem_singleton.mp hp])
    (fun g u hg => by
      obtain ⟨d, t, h1, h2, rfl⟩ := owe_pos hg
      rw [lv_recv _ _ _ h2]
      omega)

theorem O₀_pos {c : Dev nD} {g : GSem nD τ sig} {u : Unit} (h : 0 < O₀ c g u) :
    (∃ d t, t < 15 ∧ g = cell true d (nb d c) (hsR d (nb d c) t)) ∨ ∃ d, g = barC (nb d c) := by
  unfold O₀ at h
  rw [Pi.add_apply, Finsupp.add_apply, Pi.add_apply, Finsupp.add_apply, tallyAt_apply, tallyAt_apply] at h
  by_cases h1 : g = barC (nb true c)
  · exact Or.inr ⟨true, h1⟩
  by_cases h2 : g = barC (nb false c)
  · exact Or.inr ⟨false, h2⟩
  rw [if_neg (fun h' => h1 h'.1), if_neg (fun h' => h2 h'.1)] at h
  obtain ⟨d, t, -, ht, hg⟩ := owe_pos (c := c) (T := 0) (g := g) (u := u) (by omega)
  exact Or.inl ⟨d, t, ht, hg⟩

omit [FloatOps F] in
/-- A wait on a staging cell, at the start or at the end. -/
theorem mayWait_stage (c : Dev nD) (q : DmaSem sig) (hq : recvOf q = false) (O : CellTallies nD τ sig Unit) (hO : O = O₀ c ∨ O = 0) :
    (levAts L lv : sProp 𝕄) ⊢ MayWait (c : Thread nD τ) (.dma q) () O := by
  rcases hO with rfl | rfl
  · refine MayOwe.of_cut 0 (fun p hp => by rw [Finset.mem_singleton.mp hp, L_tc]; exact Finset.mem_singleton_self _)
      (fun g u hg => by rcases O₀_pos hg with ⟨d, t, -, rfl⟩ | ⟨d, rfl⟩ <;> exact Finset.mem_singleton_self _)
      (fun p hp => by rw [Finset.mem_singleton.mp hp]; show (if recvOf q then _ else 0) ≤ 0; rw [hq]; exact Nat.le_refl 0)
      (fun g u hg => by
        rcases O₀_pos hg with ⟨d, t, ht, rfl⟩ | ⟨d, rfl⟩
        · rw [lv_recv _ _ _ ht]; omega
        · exact Nat.one_pos)
  · rw [MayWait_zero]; iintro -; iempintro

/-! ## The records every device knows -/

/-- Which cells of a device are used: the entry cell, and those of the half-slots sent and received at each step. -/
abbrev Ck : Type := Unit ⊕ (Bool × Bool × Fin 15)
/-- A used cell. -/
def kcell (p : Dev nD × Ck) : GSem nD τ sig :=
  match p.2 with
  | .inl _ => barC p.1
  | .inr (s, d, t) => cell s d p.1 (hsC s d p.1 t)

/-- A cell's invariant, under some name, and that its round 0 is reached. -/
def known (g : GSem nD τ sig) : sProp 𝕄 := iprop(∃ κ, cellInv ER (rd m) κ g ∗ reached ER g 0)
instance known_persistent (g : GSem nD τ sig) : BI.Persistent (known m g) := by unfold known; infer_instance
/-- That of every used cell of every device. -/
def recs : sProp 𝕄 := bigSep Finset.univ fun p : Dev nD × Ck => known m (kcell p)
instance recs_persistent : BI.Persistent (recs m) := by unfold recs; infer_instance

theorem recs_at (p : Dev nD × Ck) : recs m ⊢ known m (kcell p) := bigSep_elim (Finset.mem_univ p)
theorem recs_bar (c : Dev nD) : recs m ⊢ known m (barC c) := recs_at m (c, .inl ())
theorem recs_own (s d : Bool) (c : Dev nD) (t : ℕ) (ht : t < 15) : recs m ⊢ known m (cell s d c (hsC s d c t)) :=
  recs_at m (c, .inr (s, d, ⟨t, ht⟩))
theorem recs_next (d : Bool) (c : Dev nD) (t : ℕ) (ht : t < 15) : recs m ⊢ known m (cell true d (nb d c) (hsS d c t)) := by
  rw [← hsR_nb]; exact recs_own m true d (nb d c) t ht

/-- What a device owes, whatever it has waited for. -/
def ow (c : Dev nD) (O : CellTallies nD τ sig Unit) : sProp 𝕄 := iprop(∃ W, owes (c : Thread nD τ) O W)

end Cert.KernelIdeal.Hop

end
-- ==== Proof.StepIdeal.lean ====
module

public import proofs.«01_k».proof.Proof.ProtIdeal

/-! # One effect at a time

One lemma for a send, one for a wait, one for a product; the hops are made of these. -/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ)

/-- No procedure is called. -/
abbrev 𝒱₀ : Variants := Variants.none

/-- A program of device `c` runs to `Q`. -/
abbrev runs {α : Type} (c : Dev nD) (p : Pg F α) (Q : α → sProp 𝕄) : sProp 𝕄 :=
  wp frame (wpE (defs₀ (F := F)) 𝒱₀ (c : Thread nD τ) none) Set.univ p Q

/-! ## Half-slots as the effects see them -/

theorem half_set (hs : Fin 32) (ho : Inb3 (o3 hs)) : (halfAt gM (o3 hs) ho).view.set = hset hs := by
  rw [Memref.set_view_squeeze]
  exact View.set_slice_whole _ _

/-- A half-slot, as the source or the destination of a transfer. -/
theorem slotAt_view (c : Dev nD) (hs : Fin 32) (q : PosShare TreeShare) (f) (ho : Inb3 (o3 hs)) :
    slotAt (F := F) c hs q f = ((halfAt gM (o3 hs) ho).view.loc (c : Thread nD τ) ↦[(halfAt gM (o3 hs) ho).view.set]{q} f) := by
  rw [half_set]; rfl

/-- A half-slot overwritten by the half-slot of the same number holds what it is to hold. -/
theorem slot_landed (c' : Dev nD) (hs : Fin 32) (ho : Inb3 (o3 hs)) (fd : Buf (Elt F) ((c' : Thread nD τ).loc cc0_scratch0)) :
    slotAt (F := F) c' hs fullShare ((halfAt gM (o3 hs) ho).view.write (Elt F) fd
        ((halfAt gM (o3 hs) ho).view.read (Elt F) (commV m)) Finset.univ)
      = slot m c' hs fullShare := by
  unfold slot slotAt
  refine pointsTo_congr fun i hi => ?_
  rw [← half_set hs ho] at hi
  obtain ⟨x, -, rfl⟩ := Finset.mem_map.mp hi
  rw [View.write_emb_of_mem _ _ (Finset.mem_univ x)]
  rfl

/-- The share of a half-slot that is never lent. -/
abbrev keep : PosShare TreeShare := fullShare.right.right

/-- A half-slot held whole is two lendable shares and the kept one. -/
theorem slot_split (c : Dev nD) (hs : Fin 32) :
    slot m c hs fullShare ⊣⊢ iprop(slot m c hs (shr true) ∗ slot m c hs (shr false) ∗ slot m c hs keep) := by
  have h1 : slot m c hs fullShare ⊣⊢ iprop(slot m c hs fullShare.left ∗ slot m c hs fullShare.right) :=
    pointsTo_share (PosShare.mem_left_op_right _)
  have h2 : slot m c hs fullShare.right ⊣⊢ iprop(slot m c hs fullShare.right.left ∗ slot m c hs fullShare.right.right) :=
    pointsTo_share (PosShare.mem_left_op_right _)
  exact ⟨h1.1.trans (sep_mono_right h2.1), (sep_mono_right h2.2).trans h1.2⟩

/-! ## A send -/

/-- What a send of step `t` in direction `d` needs besides the half-slot: the destination and the right to pay. -/
def todoS (d : Bool) (c : Dev nD) (t : ℕ) : sProp 𝕄 :=
  iprop(slotAny (F := F) (nb d c) (hsS d c t) ∗ dutyTok ER (cell false d c (hsS d c t)) 0 false
    ∗ dutyTok ER (cell true d (nb d c) (hsS d c t)) 0 false)
/-- The credit a device holds on one of its own cells of half-slots. -/
def crd (s d : Bool) (c : Dev nD) (t : ℕ) : sProp 𝕄 := cred (tallyAt (cell s d c (hsC s d c t)) () N)
/-- A device's place at one of its own cells of half-slots. -/
def at_ (r : ℕ) (s d : Bool) (c : Dev nD) (t : ℕ) : sProp 𝕄 := atPos ER (cell s d c (hsC s d c t)) r ∅ 0

/-- The send of step `t` in direction `d`: it gives up a share of the half-slot, and the debt. -/
theorem wp_sendHop (d : Bool) (c : Dev nD) (t : ℕ) (ht : t < 15) {n : Dev nD} {A B : DmaSems sig S32}
    {q : Fin 1 → Nat} {hq : Inb1 q} {o : Fin 3 → Nat} {ho : Inb3 o} {hw : Words o ho}
    (hn : n = nb d c) (hA : A = arr false d) (hB : B = arr true d) (hqe : q = o1 (hsS d c t)) (hoe : o = o3 (hsS d c t))
    {O O' : CellTallies nD τ sig Unit} (hO : O = O' + due d c t) (Q : PUnit → sProp 𝕄) :
    iprop(recs m ∗ slot m c (hsS d c t) (shr d) ∗ todoS d c t ∗ ow c O)
      ⊢ iprop(((crd false d c t ∗ ow c O') -∗ Q ⟨⟩)
        -∗ runs c (sendOp gM (Memref.isWhole_whole _) A B n q hq o ho hw) Q) := by
  subst hn hA hB hqe hoe
  unfold todoS slotAny ow
  iintro ⟨#HR, Hs, ⟨⟨%fd, Hd⟩, Ht1, Ht2⟩, ⟨%W, HO⟩⟩ Hk
  ihave #H1 := (recs_own m false d c t ht) $$ HR
  ihave #H2 := (recs_next m d c t ht) $$ HR
  unfold known
  icases H1 with ⟨%κ₁, HI1, Hr1⟩
  icases H2 with ⟨%κ₂, HI2, Hr2⟩
  have e1 : ∀ hq, (semAt (arr false d) (o1 (hsS d c t)) hq).sem = semOf false d (hsS d c t) := fun _ => semAt_eq _ _ _
  have e2 : ∀ hq, (semAt (arr true d) (o1 (hsS d c t)) hq).sem = semOf true d (hsS d c t) := fun _ => semAt_eq _ _ _
  have key := Rounds.wp_send_pointsTo (defs := defs₀ (F := F)) 𝒱₀ ER (rd m) (c : Thread nD τ) none (κ₁ := κ₁) (κ₂ := κ₂)
    (c' := (nb d c : Thread nD τ)) (src := halfAt gM (o3 (hsS d c t)) ho) (dst := halfAt gM (o3 (hsS d c t)) ho) (hsc := rfl)
    (sS := .dma (semOf false d (hsS d c t))) (sem := .dma (semOf true d (hsS d c t)))
    (hsrc := ((Memref.isWhole_whole cc0_scratch0).wordExact_slice rfl _ hw).reshape _ _)
    (hdst := ((Memref.isWhole_whole cc0_scratch0).wordExact_slice rfl _ hw).reshape _ _) (hsem := ⟨⟨rfl, Or.inl rfl⟩, trivial⟩)
    (k := .ret) (Q := Q) (q := shr d) (fs := commV m) (fd := fd)
    (r₁ := 0) (r₂ := 0) (d₁ := false) (d₂ := false)
    (by exact Finset.mem_singleton_self _) (by exact Finset.mem_singleton_self _)
    () () N rfl rfl rfl O' hO (W := W)
    (by rw [payload_send, ← slotAt_view]; exact BI.Entails.refl _)
    (by rw [payload_recv, ← slotAt_view, slot_landed])
    (Es := Set.univ) (Γ := .empty)
  rw [← slotAt_view, ← slotAt_view] at key
  simp only [sendOp, Prog.lift, e1, e2]
  iapply key $$ [Hs Hd HO Ht1 Ht2]
  · isplitr; · iexact HI1
    isplitr; · iexact HI2
    isplitl [Hs]; · unfold slot; iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  unfold crd
  isplitl [Hc]; · iexact Hc
  iexists W; iexact HO

/-! ## A wait -/

/-- The wait of step `t` on the cell of what is received (`s`) or sent: it hands the half-slot's share over. -/
theorem wp_waitHop (s d : Bool) (c : Dev nD) (t : ℕ) (ht : t < 15) {A : DmaSems sig S32}
    {q : Fin 1 → Nat} {hq : Inb1 q} {o : Fin 3 → Nat} {ho : Inb3 o} {hw : Words o ho}
    (hA : A = arr s d) (hqe : q = o1 (hsC s d c t))
    {T : ℕ} (hT : t / 2 < T / 2) (Q : PUnit → sProp 𝕄) :
    iprop(recs m ∗ levAts L lv ∗ crd s d c t ∗ at_ 0 s d c t ∗ ow c (owe c T))
      ⊢ iprop(((slot m c (hsC s d c t) (if s then fullShare else shr d) ∗ at_ 1 s d c t ∗ ow c (owe c T)) -∗ Q ⟨⟩)
        -∗ runs c (waitOp gM (Memref.isWhole_whole _) A q hq o ho hw) Q) := by
  subst hA hqe
  unfold crd at_ ow
  iintro ⟨#HR, #Hlev, Hc, Hat, ⟨%W, HO⟩⟩ Hk
  ihave #H1 := (recs_own m s d c t ht) $$ HR
  unfold known
  icases H1 with ⟨%κ, HI, -⟩
  have e1 : ∀ hq, (semAt (arr s d) (o1 (hsC s d c t)) hq).sem = semOf s d (hsC s d c t) := fun _ => semAt_eq _ _ _
  simp only [waitOp, Prog.lift, e1]
  iapply (Rounds.wp_wait_rest_token 𝒱₀ ER (rd m) (c : Thread nD τ) none (κ := κ)
      (wpE_waitDma2_eq 𝒱₀ (c : Thread nD τ) none Set.univ) (Set.mem_univ _) () (O := owe c T) (W := W) (R := 0) (m := 0) (T := ∅)
      (by rw [Nat.zero_add, expect_cell])) $$ [Hc HO Hat]
  · isplitr; · iexact HI
    isplitl [Hc]; · iexact Hc
    isplitl [HO]; · iexact HO
    isplitr
    · iapply (mayWait_owe c (.dma (semOf s d (hsC s d c t))) T (by
        cases s
        · rw [lv_send]; omega
        · rw [show hsC true d c t = hsR d c t from rfl, lv_recv d c t ht]; omega))
      iexact Hlev
    iexact Hat
  iintro ⟨HO, Hat, -, Hp⟩
  rw [wp_ret]
  imodintro
  iapply Hk
  isplitl [Hp]; · iapply (Entails.of_eq (rest_cell m s d c (hsC s d c t))); iexact Hp
  isplitl [Hat]; · iexact Hat
  iexists _; iexact HO

/-! ## A product -/

/-- The result so far: right in the rows of the half-slots in `P`. -/
def outSt (c : Dev nD) (P : Fin 32 → Prop) : sProp 𝕄 :=
  iprop(∃ f : Buf (Elt F) ((c : Thread nD τ).loc cc0_stg2_0), ⌜∀ i, P (hsRow (i (0 : Fin 2))) → f i = outT m c i⌝
    ∗ (((c : Thread nD τ).loc cc0_stg2_0) ↦{fullShare} f))

theorem outSt_mono (c : Dev nD) {P P' : Fin 32 → Prop} (h : ∀ hs, P' hs → P hs) : outSt m c P ⊢ outSt m c P' := by
  unfold outSt
  iintro ⟨%f, %hf, H⟩
  iexists f
  isplitr; · ipureintro; exact fun i hi => hf i (h _ hi)
  iexact H

/-- A load of a half-slot gives its contents. -/
theorem read_half (hs : Fin 32) (ho : Inb3 (o3 hs)) :
    (gM.access (Rect.unit (s := S32x128x4096) (o3 hs) S1x128x4096.size ho)).read (Elt F) (commV m) = halfV m hs := by
  funext x
  rw [View.read_apply]
  show commV m _ = commV m _
  congr 1
  funext a
  apply Fin.ext
  have h0 : (x (0 : Fin 3)).val < 1 := (x (0 : Fin 3)).isLt
  fin_cases a
  · show hs.val + 1 * (x (0 : Fin 3)).val = hs.val; omega
  · show 0 + 1 * (x (1 : Fin 3)).val = (x (1 : Fin 3)).val; omega
  · show 0 + 1 * (x (2 : Fin 3)).val = (x (2 : Fin 3)).val; omega

theorem row_mod (hs : Fin 32) : row hs % 128 = 0 := by unfold row; omega

/-- The result after the product of half-slot `hs` is stored: right in the rows of `hs`, unchanged elsewhere. -/
theorem write_half (c : Dev nD) (hs : Fin 32) (he : Inb2 (o2 hs)) (f : Buf (Elt F) ((c : Thread nD τ).loc cc0_stg2_0)) (i : S4096x128.Idx) :
    ((oM.access (Rect.unit (s := S4096x128) (o2 hs) S128x128.size he)).write (Elt F) f (k0_pay3 (k0_pay1 (wstg m c)) (halfV m hs)) Finset.univ) i
      = if hsRow (i (0 : Fin 2)) = hs then outT m c i else f i := by
  have h1 : (i (1 : Fin 2)).val < 128 := (i (1 : Fin 2)).isLt
  by_cases h : hsRow (i (0 : Fin 2)) = hs
  · rw [if_pos h]
    have hr := (hsRow_eq _ _).mp h
    have hm := row_mod hs
    have hi : i = (oM.access (Rect.unit (s := S4096x128) (o2 hs) S128x128.size he)).emb
        (ix2 (n0 := 128) (n1 := 128) ⟨(i (0 : Fin 2)).val % 128, Nat.mod_lt _ (by decide)⟩ (i (1 : Fin 2))) := by
      funext a
      apply Fin.ext
      fin_cases a
      · show (i (0 : Fin 2)).val = row hs + 1 * ((i (0 : Fin 2)).val % 128); omega
      · show (i (1 : Fin 2)).val = 0 + 1 * (i (1 : Fin 2)).val; omega
    conv_lhs => rw [hi]
    rw [View.write_emb_of_mem _ _ (Finset.mem_univ _)]
    unfold outT
    rw [h]
    rfl
  · rw [if_neg h]
    refine View.write_of_not_mem _ _ _ fun hi => h ?_
    obtain ⟨x, -, rfl⟩ := Finset.mem_map.mp hi
    refine (hsRow_eq _ _).mpr ?_
    have h0 : (x (0 : Fin 2)).val < 128 := (x (0 : Fin 2)).isLt
    show row hs ≤ row hs + 1 * (x (0 : Fin 2)).val ∧ row hs + 1 * (x (0 : Fin 2)).val < row hs + 128
    omega

/-- The product of half-slot `hs`. -/
theorem wp_gemm (c : Dev nD) (hs : Fin 32) {w : FVec F S4096x128 .bf16} {o : Fin 3 → Nat} {ho : Inb3 o} {e : Fin 2 → Nat} {he : Inb2 e}
    (hwe : w = k0_pay1 (wstg m c)) (hoe : o = o3 hs) (hee : e = o2 hs) (P : Fin 32 → Prop) (q : PosShare TreeShare) (Q : PUnit → sProp 𝕄) :
    iprop(slot m c hs q ∗ outSt m c P)
      ⊢ iprop(((slot m c hs q ∗ outSt m c (fun x => x = hs ∨ P x)) -∗ Q ⟨⟩)
        -∗ runs c (gemmOp oM gM w o ho e he) Q) := by
  subst hwe hoe hee
  unfold outSt
  iintro ⟨Hs, ⟨%f, %hf, Ho⟩⟩ Hk
  simp only [gemmOp, Prog.lift, Prog.bind_op, Prog.bind_ret]
  unfold slot slotAt
  iapply (wp_load_rect 𝒱₀ (c : Thread nD τ) none Set.univ (m := gM) (r := Rect.unit (s := S32x128x4096) (o3 hs) S1x128x4096.size ho) (S := hset hs) (q := q) (f := commV m)
    (subset_of_eq (View.set_slice_whole _ _))) $$ [Hs]
  · iexact Hs
  iintro Hs
  rw [read_half]
  iapply (wp_load_rect 𝒱₀ (c : Thread nD τ) none Set.univ (m := oM) (r := Rect.unit (s := S4096x128) (o2 hs) S128x128.size he) (S := Finset.univ) (f := f)
    (Finset.subset_univ _)) $$ [Ho]
  · iexact Ho
  iintro Ho
  iapply (wp_store 𝒱₀ (c : Thread nD τ) none Set.univ (m := oM) (r := Rect.unit (s := S4096x128) (o2 hs) S128x128.size he) (S := Finset.univ) (f := f)
    (Finset.subset_univ _)) $$ [Ho]
  · iexact Ho
  iintro Ho
  rw [wp_ret]
  imodintro
  iapply Hk
  isplitl [Hs]; · iexact Hs
  iexists (oM.access (Rect.unit (s := S4096x128) (o2 hs) S128x128.size he)).write (Elt F) f (k0_pay3 (k0_pay1 (wstg m c)) (halfV m hs)) Finset.univ
  isplitr
  · ipureintro
    intro i hi
    rw [write_half]
    by_cases h : hsRow (i (0 : Fin 2)) = hs
    · rw [if_pos h]
    · rw [if_neg h]; exact hf i (hi.resolve_left h)
  iexact Ho

end Cert.KernelIdeal.Hop

end
-- ==== Proof.HopIdeal.lean ====
module

public import proofs.«01_k».proof.Proof.StepIdeal
public import Idealize.SL.BI.BigOpNat

/-! # The hops

Between hops a device holds its own block, all that has arrived, and what it needs for the steps to come (`st`).  A hop
takes `st` two steps on; the prologue makes it, the last hop and the last products end it. -/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ)

/-- The gather buffer is a whole buffer. -/
abbrev hgM : (gM : Memref sig .tc .vmem S32x128x4096 .bf16).IsWhole := Memref.isWhole_whole _

/-- One program after the other. -/
theorem runs_bind {α β : Type} (c : Dev nD) (p : Pg F α) (k : α → Pg F β) (Q : β → sProp 𝕄) :
    runs c (p >>= k) Q = runs c p (fun a => runs c (k a) Q) := by
  simp only [wp_bind]

/-! ## What is held for a step -/

/-- The lent share of the half-slot of a send, and what else the send needs. -/
def sendable (d : Bool) (c : Dev nD) (t : ℕ) : sProp 𝕄 := iprop(slot m c (hsS d c t) (shr d) ∗ todoS d c t)
/-- What the waits of a step need besides the credit of the send. -/
def todoW (d : Bool) (c : Dev nD) (t : ℕ) : sProp 𝕄 := iprop(at_ 0 false d c t ∗ at_ 0 true d c t ∗ crd (F := F) true d c t)
/-- What a step needs. -/
def todo (d : Bool) (c : Dev nD) (t : ℕ) : sProp 𝕄 := iprop(todoS (F := F) d c t ∗ todoW (F := F) d c t)
/-- What a step leaves: the half-slot that arrived, both cells passed. -/
def done (d : Bool) (c : Dev nD) (t : ℕ) : sProp 𝕄 := iprop(slot m c (hsR d c t) fullShare ∗ at_ 1 false d c t ∗ at_ 1 true d c t)

/-- Direction `d` before step `T`. -/
def dir (d : Bool) (c : Dev nD) (T : ℕ) : sProp 𝕄 :=
  iprop(bigSep (Finset.range T) (done m d c) ∗ bigSep (Finset.Ico T 15) (todo (F := F) d c))
/-- The half-slots whose products are stored when those sent before step `T` are. -/
def cov (c : Dev nD) (T : ℕ) (hs : Fin 32) : Prop := ∃ d t, t < T ∧ hs = hsS d c t
/-- A device before step `T`. -/
def st (c : Dev nD) (T : ℕ) : sProp 𝕄 :=
  iprop(slot m c (hsS true c 0) fullShare ∗ slot m c (hsS true c 1) fullShare ∗ dir m true c T ∗ dir m false c T
    ∗ ow c (owe c T) ∗ outSt m c (cov c T))

/-! ## Sends, products, waits of a hop -/

/-- The four sends of a hop. -/
theorem wp_sends (c : Dev nD) (i : Fin 7) (k : ℕ) (hk : k = 2 * i.val) (Q : PUnit → sProp 𝕄) :
    iprop(recs m ∗ sendable m true c k ∗ sendable m false c k ∗ sendable m true c (k + 1) ∗ sendable m false c (k + 1) ∗ ow c (owe c k))
      ⊢ iprop(((crd false true c k ∗ crd false false c k ∗ crd false true c (k + 1) ∗ crd false false c (k + 1) ∗ ow c (owe c (k + 2))) -∗ Q ⟨⟩)
        -∗ runs c (sends gM hgM cc0_scratch1 cc0_scratch2 cc0_scratch3 cc0_scratch4 c i) Q) := by
  have hi := i.isLt
  have e1 := owe_step c k (by omega)
  have e2 := owe_step c (k + 1) (by omega)
  unfold sendable
  iintro ⟨#HR, ⟨Ha, Hta⟩, ⟨Hb, Htb⟩, ⟨Hc, Htc⟩, ⟨Hd, Htd⟩, HO⟩ Hk
  simp only [sends, wp_bind]
  iapply (wp_sendHop m true c (k) (by omega) (devR_eq c) rfl rfl ((off2_eq c i.castSucc).trans (by subst hk; rfl)) ((off3_eq c i.castSucc).trans (by subst hk; rfl))
    (O := owe c k) (O' := owe c (k + 1) + due false c k) e1 _) $$ [Ha Hta HO]
  · isplitr; · iexact HR
    isplitl [Ha]; · iexact Ha
    isplitl [Hta]; · iexact Hta
    iexact HO
  iintro ⟨H1, HO⟩
  iapply (wp_sendHop m false c (k) (by omega) (devL_eq c) rfl rfl ((off4_eq c i.castSucc).trans (by subst hk; rfl)) ((off5_eq c i.castSucc).trans (by subst hk; rfl))
    (O := owe c (k + 1) + due false c k) (O' := owe c (k + 1)) rfl _) $$ [Hb Htb HO]
  · isplitr; · iexact HR
    isplitl [Hb]; · iexact Hb
    isplitl [Htb]; · iexact Htb
    iexact HO
  iintro ⟨H2, HO⟩
  iapply (wp_sendHop m true c (k + 1) (by omega) (devR_eq c) rfl rfl ((off6_eq c i).trans (by subst hk; rfl)) ((off7_eq c i).trans (by subst hk; rfl))
    (O := owe c (k + 1)) (O' := owe c (k + 1 + 1) + due false c (k + 1)) e2 _) $$ [Hc Htc HO]
  · isplitr; · iexact HR
    isplitl [Hc]; · iexact Hc
    isplitl [Htc]; · iexact Htc
    iexact HO
  iintro ⟨H3, HO⟩
  iapply (wp_sendHop m false c (k + 1) (by omega) (devL_eq c) rfl rfl ((off8_eq c i).trans (by subst hk; rfl)) ((off9_eq c i).trans (by subst hk; rfl))
    (O := owe c (k + 1 + 1) + due false c (k + 1)) (O' := owe c (k + 1 + 1)) rfl _) $$ [Hd Htd HO]
  · isplitr; · iexact HR
    isplitl [Hd]; · iexact Hd
    isplitl [Htd]; · iexact Htd
    iexact HO
  iintro ⟨H4, HO⟩
  iapply Hk
  isplitl [H1]; · iexact H1
  isplitl [H2]; · iexact H2
  isplitl [H3]; · iexact H3
  isplitl [H4]; · iexact H4
  iexact HO

/-- The eight waits of a hop. -/
theorem wp_waits (c : Dev nD) (i : Fin 7) (k : ℕ) (hk : k = 2 * i.val) (Q : PUnit → sProp 𝕄) :
    iprop(recs m ∗ levAts L lv ∗ todoW true c k ∗ todoW false c k ∗ todoW true c (k + 1) ∗ todoW false c (k + 1)
        ∗ crd false true c k ∗ crd false false c k ∗ crd false true c (k + 1) ∗ crd false false c (k + 1) ∗ ow c (owe c (k + 2)))
      ⊢ iprop(((done m true c k ∗ done m false c k ∗ done m true c (k + 1) ∗ done m false c (k + 1)
          ∗ slot m c (hsS true c k) (shr true) ∗ slot m c (hsS false c k) (shr false)
          ∗ slot m c (hsS true c (k + 1)) (shr true) ∗ slot m c (hsS false c (k + 1)) (shr false) ∗ ow c (owe c (k + 2))) -∗ Q ⟨⟩)
        -∗ runs c (waits gM hgM cc0_scratch1 cc0_scratch2 cc0_scratch3 cc0_scratch4 c i) Q) := by
  have hi := i.isLt
  unfold todoW done
  iintro ⟨#HR, #Hlev, ⟨Has, Har, Hac⟩, ⟨Hbs, Hbr, Hbc⟩, ⟨Hcs, Hcr, Hcc⟩, ⟨Hds, Hdr, Hdc⟩, H1, H2, H3, H4, HO⟩ Hk
  simp only [waits, wp_bind]
  iapply (wp_waitHop m true true c (k) (by omega) rfl ((off14_eq c i.castSucc).trans (by subst hk; rfl)) (T := k + 2) (by omega) _) $$ [Hac Har HO]
  · isplitr; · iexact HR
    isplitr; · iexact Hlev
    isplitl [Hac]; · iexact Hac
    isplitl [Har]; · iexact Har
    iexact HO
  iintro ⟨Ha, Har, HO⟩
  iapply (wp_waitHop m true false c (k) (by omega) rfl ((off16_eq c i.castSucc).trans (by subst hk; rfl)) (T := k + 2) (by omega) _) $$ [Hbc Hbr HO]
  · isplitr; · iexact HR
    isplitr; · iexact Hlev
    isplitl [Hbc]; · iexact Hbc
    isplitl [Hbr]; · iexact Hbr
    iexact HO
  iintro ⟨Hb, Hbr, HO⟩
  iapply (wp_waitHop m true true c (k + 1) (by omega) rfl ((off18_eq c i).trans (by subst hk; rfl)) (T := k + 2) (by omega) _) $$ [Hcc Hcr HO]
  · isplitr; · iexact HR
    isplitr; · iexact Hlev
    isplitl [Hcc]; · iexact Hcc
    isplitl [Hcr]; · iexact Hcr
    iexact HO
  iintro ⟨Hc, Hcr, HO⟩
  iapply (wp_waitHop m true false c (k + 1) (by omega) rfl ((off20_eq c i).trans (by subst hk; rfl)) (T := k + 2) (by omega) _) $$ [Hdc Hdr HO]
  · isplitr; · iexact HR
    isplitr; · iexact Hlev
    isplitl [Hdc]; · iexact Hdc
    isplitl [Hdr]; · iexact Hdr
    iexact HO
  iintro ⟨Hd, Hdr, HO⟩
  iapply (wp_waitHop m false true c (k) (by omega) rfl ((off2_eq c i.castSucc).trans (by subst hk; rfl)) (T := k + 2) (by omega) _) $$ [H1 Has HO]
  · isplitr; · iexact HR
    isplitr; · iexact Hlev
    isplitl [H1]; · iexact H1
    isplitl [Has]; · iexact Has
    iexact HO
  iintro ⟨H1, Has, HO⟩
  iapply (wp_waitHop m false false c (k) (by omega) rfl ((off4_eq c i.castSucc).trans (by subst hk; rfl)) (T := k + 2) (by omega) _) $$ [H2 Hbs HO]
  · isplitr; · iexact HR
    isplitr; · iexact Hlev
    isplitl [H2]; · iexact H2
    isplitl [Hbs]; · iexact Hbs
    iexact HO
  iintro ⟨H2, Hbs, HO⟩
  iapply (wp_waitHop m false true c (k + 1) (by omega) rfl ((off6_eq c i).trans (by subst hk; rfl)) (T := k + 2) (by omega) _) $$ [H3 Hcs HO]
  · isplitr; · iexact HR
    isplitr; · iexact Hlev
    isplitl [H3]; · iexact H3
    isplitl [Hcs]; · iexact Hcs
    iexact HO
  iintro ⟨H3, Hcs, HO⟩
  iapply (wp_waitHop m false false c (k + 1) (by omega) rfl ((off8_eq c i).trans (by subst hk; rfl)) (T := k + 2) (by omega) _) $$ [H4 Hds HO]
  · isplitr; · iexact HR
    isplitr; · iexact Hlev
    isplitl [H4]; · iexact H4
    isplitl [Hds]; · iexact Hds
    iexact HO
  iintro ⟨H4, Hds, HO⟩
  iapply Hk
  isplitl [Ha Has Har]
  · isplitl [Ha]; · iexact Ha
    isplitl [Has]; · iexact Has
    iexact Har
  isplitl [Hb Hbs Hbr]
  · isplitl [Hb]; · iexact Hb
    isplitl [Hbs]; · iexact Hbs
    iexact Hbr
  isplitl [Hc Hcs Hcr]
  · isplitl [Hc]; · iexact Hc
    isplitl [Hcs]; · iexact Hcs
    iexact Hcr
  isplitl [Hd Hds Hdr]
  · isplitl [Hd]; · iexact Hd
    isplitl [Hds]; · iexact Hds
    iexact Hdr
  isplitl [H1]; · iexact H1
  isplitl [H2]; · iexact H2
  isplitl [H3]; · iexact H3
  isplitl [H4]; · iexact H4
  iexact HO

theorem cov_step (c : Dev nD) (k : ℕ) (hs : Fin 32) (h : cov c (k + 4) hs) :
    hs = hsR false c k ∨ hs = hsR false c (k + 1) ∨ hs = hsR true c (k + 1) ∨ hs = hsR true c k ∨ cov c (k + 2) hs := by
  obtain ⟨d, t, ht, rfl⟩ := h
  by_cases h1 : t < k + 2
  · exact Or.inr (Or.inr (Or.inr (Or.inr ⟨d, t, h1, rfl⟩)))
  obtain h1 | h1 : t = k + 2 ∨ t = k + 1 + 2 := by omega
  · subst h1
    cases d
    · exact Or.inl rfl
    · exact Or.inr (Or.inr (Or.inr (Or.inl rfl)))
  · subst h1
    cases d
    · exact Or.inr (Or.inl rfl)
    · exact Or.inr (Or.inr (Or.inl rfl))

/-- The four products of a hop. -/
theorem wp_gemms (c : Dev nD) (i : Fin 7) (k : ℕ) (hk : k = 2 * i.val) (q : PosShare TreeShare) (Q : PUnit → sProp 𝕄) :
    iprop(slot m c (hsR true c k) q ∗ slot m c (hsR false c k) q ∗ slot m c (hsR true c (k + 1)) q ∗ slot m c (hsR false c (k + 1)) q
        ∗ outSt m c (cov c (k + 2)))
      ⊢ iprop(((slot m c (hsR true c k) q ∗ slot m c (hsR false c k) q ∗ slot m c (hsR true c (k + 1)) q ∗ slot m c (hsR false c (k + 1)) q
          ∗ outSt m c (cov c (k + 4))) -∗ Q ⟨⟩)
        -∗ runs c (gemms oM gM (k0_pay1 (wstg m c)) c i) Q) := by
  iintro ⟨Ha, Hb, Hc, Hd, Ho⟩ Hk
  unfold gemms
  rw [runs_bind]
  iapply (wp_gemm m c (hsR true c (k)) rfl ((off22_eq c i).trans (by subst hk; rfl)) ((off23_eq c i).trans (by subst hk; rfl)) _ q _) $$ [Ha Ho]
  · isplitl [Ha]; · iexact Ha
    iexact Ho
  iintro ⟨Ha, Ho⟩
  rw [runs_bind]
  iapply (wp_gemm m c (hsR true c (k + 1)) rfl ((off24_eq c i).trans (by subst hk; rfl)) ((off25_eq c i).trans (by subst hk; rfl)) _ q _) $$ [Hc Ho]
  · isplitl [Hc]; · iexact Hc
    iexact Ho
  iintro ⟨Hc, Ho⟩
  rw [runs_bind]
  iapply (wp_gemm m c (hsR false c (k + 1)) rfl ((off26_eq c i).trans (by subst hk; rfl)) ((off27_eq c i).trans (by subst hk; rfl)) _ q _) $$ [Hd Ho]
  · isplitl [Hd]; · iexact Hd
    iexact Ho
  iintro ⟨Hd, Ho⟩
  iapply (wp_gemm m c (hsR false c (k)) rfl ((off28_eq c i).trans (by subst hk; rfl)) ((off29_eq c i).trans (by subst hk; rfl)) _ q _) $$ [Hb Ho]
  · isplitl [Hb]; · iexact Hb
    iexact Ho
  iintro ⟨Hb, Ho⟩
  iapply Hk
  isplitl [Ha]; · iexact Ha
  isplitl [Hb]; · iexact Hb
  isplitl [Hc]; · iexact Hc
  isplitl [Hd]; · iexact Hd
  iapply (outSt_mono m c (cov_step c k))
  iexact Ho

/-! ## A direction, opened for a hop -/

theorem dir_open (d : Bool) (c : Dev nD) (k : ℕ) (hk : k + 3 < 15) :
    dir m d c (k + 2) = iprop((done m d c (k + 1) ∗ done m d c k ∗ bigSep (Finset.range k) (done m d c))
      ∗ (todo d c (k + 2) ∗ todo d c (k + 3) ∗ bigSep (Finset.Ico (k + 4) 15) (todo (F := F) d c))) := by
  unfold dir
  rw [bigSep_range_succ, bigSep_range_succ, bigSep_Ico_succ_bot (by omega), bigSep_Ico_succ_bot (by omega)]

theorem dir_close (d : Bool) (c : Dev nD) (k : ℕ) :
    iprop((done m d c (k + 3) ∗ done m d c (k + 2) ∗ done m d c (k + 1) ∗ done m d c k ∗ bigSep (Finset.range k) (done m d c))
      ∗ bigSep (Finset.Ico (k + 4) 15) (todo (F := F) d c)) = dir m d c (k + 4) := by
  unfold dir
  rw [bigSep_range_succ (k + 3), bigSep_range_succ (k + 2), bigSep_range_succ (k + 1), bigSep_range_succ k]

/-- What arrived at step `k`, its half-slot split for sending it on. -/
theorem done_split (d : Bool) (c : Dev nD) (k : ℕ) :
    done m d c k ⊣⊢ iprop((slot m c (hsS d c (k + 2)) (shr d) ∗ slot m c (hsR d c k) (shr (!d)) ∗ slot m c (hsR d c k) keep)
      ∗ at_ 1 false d c k ∗ at_ 1 true d c k) := by
  have h := slot_split m c (hsR d c k)
  unfold done
  cases d
  · refine ⟨sep_mono_left (h.1.trans ?_), sep_mono_left (BIBase.Entails.trans ?_ h.2)⟩
    · iintro ⟨Ha, Hb, Hc⟩
      isplitl [Hb]; · iexact Hb
      isplitl [Ha]; · iexact Ha
      iexact Hc
    · iintro ⟨Ha, Hb, Hc⟩
      isplitl [Hb]; · iexact Hb
      isplitl [Ha]; · iexact Ha
      iexact Hc
  · exact ⟨sep_mono_left h.1, sep_mono_left h.2⟩

/-! ## The hops -/

/-- A hop in between takes a device two steps on. -/
theorem wp_hopMid (c : Dev nD) (i : Fin 6) (k : ℕ) (hk : k = 2 * i.val) (Q : PUnit → sProp 𝕄) :
    iprop(recs m ∗ levAts L lv ∗ st m c (k + 2))
      ⊢ iprop((st m c (k + 4) -∗ Q ⟨⟩)
        -∗ runs c (hopMid oM gM hgM cc0_scratch1 cc0_scratch2 cc0_scratch3 cc0_scratch4 (k0_pay1 (wstg m c)) c i) Q) := by
  have hi := i.isLt
  have hk' : k + 2 = 2 * i.succ.val := by rw [hk]; rfl
  unfold st
  rw [dir_open m true c k (by omega), dir_open m false c k (by omega), ← dir_close, ← dir_close]
  iintro ⟨#HR, #Hlev, Hw0, Hw1, ⟨⟨Hta, Htb, Htd⟩, Htx, Hty, Htr⟩, ⟨⟨Hfa, Hfb, Hfd⟩, Hfx, Hfy, Hfr⟩, HO, Ho⟩ Hk
  unfold todo
  icases Htx with ⟨Htxs, Htxw⟩
  icases Hty with ⟨Htys, Htyw⟩
  icases Hfx with ⟨Hfxs, Hfxw⟩
  icases Hfy with ⟨Hfys, Hfyw⟩
  ihave Hta := (done_split m true c (k + 1)).1 $$ Hta
  ihave Htb := (done_split m true c k).1 $$ Htb
  ihave Hfa := (done_split m false c (k + 1)).1 $$ Hfa
  ihave Hfb := (done_split m false c k).1 $$ Hfb
  icases Hta with ⟨⟨HtaS, HtaX, HtaK⟩, HtaA⟩
  icases Htb with ⟨⟨HtbS, HtbX, HtbK⟩, HtbA⟩
  icases Hfa with ⟨⟨HfaS, HfaX, HfaK⟩, HfaA⟩
  icases Hfb with ⟨⟨HfbS, HfbX, HfbK⟩, HfbA⟩
  simp only [hopMid, wp_bind]
  iapply (wp_sends m c i.succ (k + 2) hk' _) $$ [HtaS HtbS HfaS HfbS Htxs Htys Hfxs Hfys HO]
  · unfold sendable
    isplitr; · iexact HR
    isplitl [HtbS Htxs]; · isplitl [HtbS]; · iexact HtbS
                           iexact Htxs
    isplitl [HfbS Hfxs]; · isplitl [HfbS]; · iexact HfbS
                           iexact Hfxs
    isplitl [HtaS Htys]; · isplitl [HtaS]; · iexact HtaS
                           iexact Htys
    isplitl [HfaS Hfys]; · isplitl [HfaS]; · iexact HfaS
                           iexact Hfys
    iexact HO
  iintro ⟨H1, H2, H3, H4, HO⟩
  iapply (wp_gemms m c i.castSucc k hk keep _) $$ [HtaK HtbK HfaK HfbK Ho]
  · isplitl [HtbK]; · iexact HtbK
    isplitl [HfbK]; · iexact HfbK
    isplitl [HtaK]; · iexact HtaK
    isplitl [HfaK]; · iexact HfaK
    iexact Ho
  iintro ⟨HtbK, HfbK, HtaK, HfaK, Ho⟩
  iapply (wp_waits m c i.succ (k + 2) hk' _) $$ [Htxw Htyw Hfxw Hfyw H1 H2 H3 H4 HO]
  · isplitr; · iexact HR
    isplitr; · iexact Hlev
    isplitl [Htxw]; · iexact Htxw
    isplitl [Hfxw]; · iexact Hfxw
    isplitl [Htyw]; · iexact Htyw
    isplitl [Hfyw]; · iexact Hfyw
    isplitl [H1]; · iexact H1
    isplitl [H2]; · iexact H2
    isplitl [H3]; · iexact H3
    isplitl [H4]; · iexact H4
    iexact HO
  iintro ⟨Htx, Hfx, Hty, Hfy, HtbS, HfbS, HtaS, HfaS, HO⟩
  ihave Hta := (done_split m true c (k + 1)).2 $$ [HtaS HtaX HtaK HtaA]
  · isplitl [HtaS HtaX HtaK]
    · isplitl [HtaS]; · iexact HtaS
      isplitl [HtaX]; · iexact HtaX
      iexact HtaK
    iexact HtaA
  ihave Htb := (done_split m true c k).2 $$ [HtbS HtbX HtbK HtbA]
  · isplitl [HtbS HtbX HtbK]
    · isplitl [HtbS]; · iexact HtbS
      isplitl [HtbX]; · iexact HtbX
      iexact HtbK
    iexact HtbA
  ihave Hfa := (done_split m false c (k + 1)).2 $$ [HfaS HfaX HfaK HfaA]
  · isplitl [HfaS HfaX HfaK]
    · isplitl [HfaS]; · iexact HfaS
      isplitl [HfaX]; · iexact HfaX
      iexact HfaK
    iexact HfaA
  ihave Hfb := (done_split m false c k).2 $$ [HfbS HfbX HfbK HfbA]
  · isplitl [HfbS HfbX HfbK]
    · isplitl [HfbS]; · iexact HfbS
      isplitl [HfbX]; · iexact HfbX
      iexact HfbK
    iexact HfbA
  iapply Hk
  isplitl [Hw0]; · iexact Hw0
  isplitl [Hw1]; · iexact Hw1
  isplitl [Htx Hty Hta Htb Htd Htr]
  · isplitr [Htr]
    · isplitl [Hty]; · iexact Hty
      isplitl [Htx]; · iexact Htx
      isplitl [Hta]; · iexact Hta
      isplitl [Htb]; · iexact Htb
      iexact Htd
    iexact Htr
  isplitl [Hfx Hfy Hfa Hfb Hfd Hfr]
  · isplitr [Hfr]
    · isplitl [Hfy]; · iexact Hfy
      isplitl [Hfx]; · iexact Hfx
      isplitl [Hfa]; · iexact Hfa
      isplitl [Hfb]; · iexact Hfb
      iexact Hfd
    iexact Hfr
  isplitl [HO]; · iexact HO
  iexact Ho

/-! ## The first hop, the last hop, the last products -/

theorem cov_own (c : Dev nD) (hs : Fin 32) (h : cov c 2 hs) : hs = hsS true c 1 ∨ hs = hsS true c 0 ∨ cov c 0 hs := by
  obtain ⟨d, t, ht, rfl⟩ := h
  obtain h1 | h1 : t = 0 ∨ t = 1 := by omega
  · subst h1
    cases d
    · exact Or.inl (own_swap c).1
    · exact Or.inr (Or.inl rfl)
  · subst h1
    cases d
    · exact Or.inr (Or.inl (own_swap c).2)
    · exact Or.inl rfl

/-- The two products of the own block. -/
theorem wp_gemmOwn (c : Dev nD) (q : PosShare TreeShare) (Q : PUnit → sProp 𝕄) :
    iprop(slot m c (hsS true c 0) q ∗ slot m c (hsS true c 1) q ∗ outSt m c (cov c 0))
      ⊢ iprop(((slot m c (hsS true c 0) q ∗ slot m c (hsS true c 1) q ∗ outSt m c (cov c 2)) -∗ Q ⟨⟩)
        -∗ runs c (gemmOwn oM gM (k0_pay1 (wstg m c)) c) Q) := by
  iintro ⟨Ha, Hb, Ho⟩ Hk
  unfold gemmOwn
  rw [runs_bind]
  iapply (wp_gemm m c (hsS true c 0) rfl (off10_eq c) (off11_eq c) _ q _) $$ [Ha Ho]
  · isplitl [Ha]; · iexact Ha
    iexact Ho
  iintro ⟨Ha, Ho⟩
  iapply (wp_gemm m c (hsS true c 1) rfl (off12_eq c) (off13_eq c) _ q _) $$ [Hb Ho]
  · isplitl [Hb]; · iexact Hb
    iexact Ho
  iintro ⟨Hb, Ho⟩
  iapply Hk
  isplitl [Ha]; · iexact Ha
  isplitl [Hb]; · iexact Hb
  iapply (outSt_mono m c (cov_own c))
  iexact Ho

theorem cov_all (c : Dev nD) (hs : Fin 32) : hs = hsR false c 14 ∨ hs = hsR true c 14 ∨ cov c 16 hs := by
  have hm := allHs_mem c hs
  have key : ∀ d t, t < 15 → hs = hsR d c t → hs = hsR false c 14 ∨ hs = hsR true c 14 ∨ cov c 16 hs := by
    intro d t ht e
    by_cases h : t = 14
    · subst h
      cases d
      · exact Or.inl e
      · exact Or.inr (Or.inl e)
    · exact Or.inr (Or.inr ⟨d, t + 2, by omega, e⟩)
  unfold allHs at hm
  rw [List.mem_cons, List.mem_cons, List.mem_append, List.mem_map, List.mem_map] at hm
  rcases hm with h | h | ⟨t, ht, h⟩ | ⟨t, ht, h⟩
  · exact Or.inr (Or.inr ⟨true, 0, by omega, h⟩)
  · exact Or.inr (Or.inr ⟨true, 1, by omega, h⟩)
  · exact key true t (List.mem_range.mp ht) h.symm
  · exact key false t (List.mem_range.mp ht) h.symm

/-- The two products of the block opposite: the result is complete. -/
theorem wp_gemmLast (c : Dev nD) (q : PosShare TreeShare) (Q : PUnit → sProp 𝕄) :
    iprop(slot m c (hsR true c 14) q ∗ slot m c (hsR false c 14) q ∗ outSt m c (cov c 16))
      ⊢ iprop(((slot m c (hsR true c 14) q ∗ slot m c (hsR false c 14) q ∗ outSt m c (fun _ => True)) -∗ Q ⟨⟩)
        -∗ runs c (gemmLast oM gM (k0_pay1 (wstg m c)) c) Q) := by
  iintro ⟨Ha, Hb, Ho⟩ Hk
  unfold gemmLast
  rw [runs_bind]
  iapply (wp_gemm m c (hsR true c 14) rfl (off30_eq c) (off31_eq c) _ q _) $$ [Ha Ho]
  · isplitl [Ha]; · iexact Ha
    iexact Ho
  iintro ⟨Ha, Ho⟩
  iapply (wp_gemm m c (hsR false c 14) rfl (off32_eq c) (off33_eq c) _ q _) $$ [Hb Ho]
  · isplitl [Hb]; · iexact Hb
    iexact Ho
  iintro ⟨Hb, Ho⟩
  iapply Hk
  isplitl [Ha]; · iexact Ha
  isplitl [Hb]; · iexact Hb
  iapply (outSt_mono m c (fun hs _ => cov_all c hs))
  iexact Ho

/-- The first hop. -/
theorem wp_hopFirst (c : Dev nD) (Q : PUnit → sProp 𝕄) :
    iprop(recs m ∗ levAts L lv ∗ st m c 0)
      ⊢ iprop((st m c 2 -∗ Q ⟨⟩)
        -∗ runs c (hopFirst oM gM hgM cc0_scratch1 cc0_scratch2 cc0_scratch3 cc0_scratch4 (k0_pay1 (wstg m c)) c) Q) := by
  have hod (d : Bool) : dir m d c 0 = iprop(bigSep (Finset.range 0) (done m d c) ∗ (todo d c 0 ∗ todo d c 1 ∗ bigSep (Finset.Ico 2 15) (todo (F := F) d c))) := by
    unfold dir; rw [bigSep_Ico_succ_bot (by omega), bigSep_Ico_succ_bot (by omega)]
  have hcl (d : Bool) : iprop((done m d c 1 ∗ done m d c 0 ∗ bigSep (Finset.range 0) (done m d c)) ∗ bigSep (Finset.Ico 2 15) (todo (F := F) d c)) = dir m d c 2 := by
    unfold dir; rw [bigSep_range_succ 1, bigSep_range_succ 0]
  have hs0 := slot_split m c (hsS true c 0)
  have hs1 := slot_split m c (hsS true c 1)
  unfold st
  rw [hod, hod, ← hcl, ← hcl]
  iintro ⟨#HR, #Hlev, Hw0, Hw1, ⟨Htd, Htx, Hty, Htr⟩, ⟨Hfd, Hfx, Hfy, Hfr⟩, HO, Ho⟩ Hk
  unfold todo
  icases Htx with ⟨Htxs, Htxw⟩
  icases Hty with ⟨Htys, Htyw⟩
  icases Hfx with ⟨Hfxs, Hfxw⟩
  icases Hfy with ⟨Hfys, Hfyw⟩
  ihave Hw0 := hs0.1 $$ Hw0
  ihave Hw1 := hs1.1 $$ Hw1
  icases Hw0 with ⟨Hw0t, Hw0f, Hw0k⟩
  icases Hw1 with ⟨Hw1t, Hw1f, Hw1k⟩
  unfold hopFirst
  rw [runs_bind]
  iapply (wp_sends m c 0 0 rfl _) $$ [Hw0t Hw0f Hw1t Hw1f Htxs Htys Hfxs Hfys HO]
  · unfold sendable
    rw [(own_swap c).1, (own_swap c).2]
    isplitr; · iexact HR
    isplitl [Hw0t Htxs]; · isplitl [Hw0t]; · iexact Hw0t
                           iexact Htxs
    isplitl [Hw1f Hfxs]; · isplitl [Hw1f]; · iexact Hw1f
                           iexact Hfxs
    isplitl [Hw1t Htys]; · isplitl [Hw1t]; · iexact Hw1t
                           iexact Htys
    isplitl [Hw0f Hfys]; · isplitl [Hw0f]; · iexact Hw0f
                           iexact Hfys
    iexact HO
  iintro ⟨H1, H2, H3, H4, HO⟩
  rw [runs_bind]
  iapply (wp_gemmOwn m c keep _) $$ [Hw0k Hw1k Ho]
  · isplitl [Hw0k]; · iexact Hw0k
    isplitl [Hw1k]; · iexact Hw1k
    iexact Ho
  iintro ⟨Hw0k, Hw1k, Ho⟩
  iapply (wp_waits m c 0 0 rfl _) $$ [Htxw Htyw Hfxw Hfyw H1 H2 H3 H4 HO]
  · isplitr; · iexact HR
    isplitr; · iexact Hlev
    isplitl [Htxw]; · iexact Htxw
    isplitl [Hfxw]; · iexact Hfxw
    isplitl [Htyw]; · iexact Htyw
    isplitl [Hfyw]; · iexact Hfyw
    isplitl [H1]; · iexact H1
    isplitl [H2]; · iexact H2
    isplitl [H3]; · iexact H3
    isplitl [H4]; · iexact H4
    iexact HO
  rw [(own_swap c).1, (own_swap c).2]
  iintro ⟨Htx, Hfx, Hty, Hfy, Hw0t, Hw1f, Hw1t, Hw0f, HO⟩
  iapply Hk
  isplitl [Hw0t Hw0f Hw0k]
  · iapply hs0.2
    isplitl [Hw0t]; · iexact Hw0t
    isplitl [Hw0f]; · iexact Hw0f
    iexact Hw0k
  isplitl [Hw1t Hw1f Hw1k]
  · iapply hs1.2
    isplitl [Hw1t]; · iexact Hw1t
    isplitl [Hw1f]; · iexact Hw1f
    iexact Hw1k
  isplitl [Htx Hty Htd Htr]
  · isplitr [Htr]
    · isplitl [Hty]; · iexact Hty
      isplitl [Htx]; · iexact Htx
      iexact Htd
    iexact Htr
  isplitl [Hfx Hfy Hfd Hfr]
  · isplitr [Hfr]
    · isplitl [Hfy]; · iexact Hfy
      isplitl [Hfx]; · iexact Hfx
      iexact Hfd
    iexact Hfr
  isplitl [HO]; · iexact HO
  iexact Ho

/-- What a device holds at the end. -/
def fin (c : Dev nD) : sProp 𝕄 :=
  iprop(slot m c (hsS true c 0) fullShare ∗ slot m c (hsS true c 1) fullShare
    ∗ bigSep (Finset.range 15) (done m true c) ∗ bigSep (Finset.range 15) (done m false c)
    ∗ ow c 0 ∗ outSt m c (fun _ => True))

/-- The last hop and the last products. -/
theorem wp_hopLast (c : Dev nD) (Q : PUnit → sProp 𝕄) :
    iprop(recs m ∗ levAts L lv ∗ st m c 14)
      ⊢ iprop((fin m c -∗ Q ⟨⟩)
        -∗ runs c (hopLast oM gM hgM cc0_scratch1 cc0_scratch2 cc0_scratch3 cc0_scratch4 (k0_pay1 (wstg m c)) c
            >>= fun _ => gemmLast oM gM (k0_pay1 (wstg m c)) c) Q) := by
  have hod (d : Bool) : dir m d c 14 = iprop((done m d c 13 ∗ done m d c 12 ∗ bigSep (Finset.range 12) (done m d c)) ∗ (todo d c 14 ∗ bigSep (Finset.Ico 15 15) (todo (F := F) d c))) := by
    unfold dir; rw [bigSep_range_succ 13, bigSep_range_succ 12, bigSep_Ico_succ_bot (by omega)]
  have hcl (d : Bool) : iprop(done m d c 14 ∗ done m d c 13 ∗ done m d c 12 ∗ bigSep (Finset.range 12) (done m d c)) = bigSep (Finset.range 15) (done m d c) := by
    rw [bigSep_range_succ 14, bigSep_range_succ 13, bigSep_range_succ 12]
  have e1 := owe_step c 14 (by omega)
  unfold st fin
  rw [hod, hod, ← hcl, ← hcl]
  iintro ⟨#HR, #Hlev, Hw0, Hw1, ⟨⟨Hta, Htb, Htd⟩, Htx, -⟩, ⟨⟨Hfa, Hfb, Hfd⟩, Hfx, -⟩, HO, Ho⟩ Hk
  unfold todo
  icases Htx with ⟨Htxs, Htxw⟩
  icases Hfx with ⟨Hfxs, Hfxw⟩
  ihave Hta := (done_split m true c 13).1 $$ Hta
  ihave Htb := (done_split m true c 12).1 $$ Htb
  ihave Hfa := (done_split m false c 13).1 $$ Hfa
  ihave Hfb := (done_split m false c 12).1 $$ Hfb
  icases Hta with ⟨⟨HtaS, HtaX, HtaK⟩, HtaA⟩
  icases Htb with ⟨⟨HtbS, HtbX, HtbK⟩, HtbA⟩
  icases Hfa with ⟨⟨HfaS, HfaX, HfaK⟩, HfaA⟩
  icases Hfb with ⟨⟨HfbS, HfbX, HfbK⟩, HfbA⟩
  rw [runs_bind]
  unfold hopLast
  rw [runs_bind]
  iapply (wp_sendHop m true c 14 (by omega) (devR_eq c) rfl rfl (off2_eq c 7) (off3_eq c 7)
    (O := owe c 14) (O' := owe c 15 + due false c 14) e1 _) $$ [HtbS Htxs HO]
  · isplitr; · iexact HR
    isplitl [HtbS]; · iexact HtbS
    isplitl [Htxs]; · iexact Htxs
    iexact HO
  iintro ⟨H1, HO⟩
  rw [runs_bind]
  iapply (wp_sendHop m false c 14 (by omega) (devL_eq c) rfl rfl (off4_eq c 7) (off5_eq c 7)
    (O := owe c 15 + due false c 14) (O' := owe c 15) rfl _) $$ [HfbS Hfxs HO]
  · isplitr; · iexact HR
    isplitl [HfbS]; · iexact HfbS
    isplitl [Hfxs]; · iexact Hfxs
    iexact HO
  iintro ⟨H2, HO⟩
  rw [runs_bind]
  iapply (wp_gemms m c 6 12 rfl keep _) $$ [HtaK HtbK HfaK HfbK Ho]
  · isplitl [HtbK]; · iexact HtbK
    isplitl [HfbK]; · iexact HfbK
    isplitl [HtaK]; · iexact HtaK
    isplitl [HfaK]; · iexact HfaK
    iexact Ho
  iintro ⟨HtbK, HfbK, HtaK, HfaK, Ho⟩
  unfold todoW
  icases Htxw with ⟨Has, Har, Hac⟩
  icases Hfxw with ⟨Hbs, Hbr, Hbc⟩
  rw [show owe c 15 = owe c 16 from rfl]
  rw [runs_bind]
  iapply (wp_waitHop m true true c (14) (by omega) rfl (off14_eq c 7) (T := 16) (by omega) _) $$ [Hac Har HO]
  · isplitr; · iexact HR
    isplitr; · iexact Hlev
    isplitl [Hac]; · iexact Hac
    isplitl [Har]; · iexact Har
    iexact HO
  iintro ⟨Ha, Har, HO⟩
  rw [runs_bind]
  iapply (wp_waitHop m true false c (14) (by omega) rfl (off16_eq c 7) (T := 16) (by omega) _) $$ [Hbc Hbr HO]
  · isplitr; · iexact HR
    isplitr; · iexact Hlev
    isplitl [Hbc]; · iexact Hbc
    isplitl [Hbr]; · iexact Hbr
    iexact HO
  iintro ⟨Hb, Hbr, HO⟩
  rw [runs_bind]
  iapply (wp_waitHop m false true c (14) (by omega) rfl (off2_eq c 7) (T := 16) (by omega) _) $$ [H1 Has HO]
  · isplitr; · iexact HR
    isplitr; · iexact Hlev
    isplitl [H1]; · iexact H1
    isplitl [Has]; · iexact Has
    iexact HO
  iintro ⟨H1, Has, HO⟩
  iapply (wp_waitHop m false false c (14) (by omega) rfl (off4_eq c 7) (T := 16) (by omega) _) $$ [H2 Hbs HO]
  · isplitr; · iexact HR
    isplitr; · iexact Hlev
    isplitl [H2]; · iexact H2
    isplitl [Hbs]; · iexact Hbs
    iexact HO
  iintro ⟨H2, Hbs, HO⟩
  ihave Hta := (done_split m true c 13).2 $$ [HtaS HtaX HtaK HtaA]
  · isplitl [HtaS HtaX HtaK]
    · isplitl [HtaS]; · iexact HtaS
      isplitl [HtaX]; · iexact HtaX
      iexact HtaK
    iexact HtaA
  ihave Htb := (done_split m true c 12).2 $$ [H1 HtbX HtbK HtbA]
  · isplitl [H1 HtbX HtbK]
    · isplitl [H1]; · iexact H1
      isplitl [HtbX]; · iexact HtbX
      iexact HtbK
    iexact HtbA
  ihave Hfa := (done_split m false c 13).2 $$ [HfaS HfaX HfaK HfaA]
  · isplitl [HfaS HfaX HfaK]
    · isplitl [HfaS]; · iexact HfaS
      isplitl [HfaX]; · iexact HfaX
      iexact HfaK
    iexact HfaA
  ihave Hfb := (done_split m false c 12).2 $$ [H2 HfbX HfbK HfbA]
  · isplitl [H2 HfbX HfbK]
    · isplitl [H2]; · iexact H2
      isplitl [HfbX]; · iexact HfbX
      iexact HfbK
    iexact HfbA
  iapply (wp_gemmLast m c fullShare _) $$ [Ha Hb Ho]
  · isplitl [Ha]; · iexact Ha
    isplitl [Hb]; · iexact Hb
    iexact Ho
  iintro ⟨Ha, Hb, Ho⟩
  iapply Hk
  isplitl [Hw0]; · iexact Hw0
  isplitl [Hw1]; · iexact Hw1
  isplitl [Ha Has Har Hta Htb Htd]
  · isplitl [Ha Has Har]
    · unfold done
      isplitl [Ha]; · iexact Ha
      isplitl [Has]; · iexact Has
      iexact Har
    isplitl [Hta]; · iexact Hta
    isplitl [Htb]; · iexact Htb
    iexact Htd
  isplitl [Hb Hbs Hbr Hfa Hfb Hfd]
  · isplitl [Hb Hbs Hbr]
    · unfold done
      isplitl [Hb]; · iexact Hb
      isplitl [Hbs]; · iexact Hbs
      iexact Hbr
    isplitl [Hfa]; · iexact Hfa
    isplitl [Hfb]; · iexact Hfb
    iexact Hfd
  isplitl [HO]; · rw [show owe c 16 = 0 from Finset.sum_eq_zero fun t ht => absurd (Finset.mem_Ico.mp ht) (by omega)]; iexact HO
  iexact Ho

end Cert.KernelIdeal.Hop

end
-- ==== Proof.BodyIdeal.lean ====
module

public import proofs.«01_k».proof.Proof.HopIdeal
public import Idealize.ShloMosaic.Lib.Pipeline.BigSepL

/-! # The prologue, and the whole body

The gather buffer cut into its 32 half-slots and put together again; the handshake, which hands each neighbour the half-slots it
will write; the own block stored; then hop after hop. -/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ)

/-! ## The gather buffer and its half-slots -/

theorem mem_hset (hs : Fin 32) (i : S32x128x4096.Idx) : i ∈ hset hs ↔ (i (0 : Fin 3)).val = hs.val := by
  have h1 : (i (1 : Fin 3)).val < 128 := (i (1 : Fin 3)).isLt
  have h2 : (i (2 : Fin 3)).val < 4096 := (i (2 : Fin 3)).isLt
  unfold hset
  rw [Rect.mem_set_unit]
  constructor
  · intro h
    have h0 : hs.val ≤ (i (0 : Fin 3)).val ∧ (i (0 : Fin 3)).val < hs.val + 1 := h (0 : Fin 3)
    omega
  · intro h a
    fin_cases a
    · show hs.val ≤ (i (0 : Fin 3)).val ∧ (i (0 : Fin 3)).val < hs.val + 1; omega
    · show 0 ≤ (i (1 : Fin 3)).val ∧ (i (1 : Fin 3)).val < 0 + 128; omega
    · show 0 ≤ (i (2 : Fin 3)).val ∧ (i (2 : Fin 3)).val < 0 + 4096; omega

theorem hset_apart (a b : Fin 32) (h : a ≠ b) : Disjoint (hset a) (hset b) :=
  Finset.disjoint_left.mpr fun i ha hb => h (Fin.ext (((mem_hset a i).mp ha).symm.trans ((mem_hset b i).mp hb)))

theorem hset_cover : (Finset.univ : Finset (Fin 32)).biUnion hset = Finset.univ := by
  ext i
  simp only [Finset.mem_biUnion, Finset.mem_univ, true_and, iff_true]
  exact ⟨i (0 : Fin 3), (mem_hset _ i).mpr rfl⟩

omit [FloatOps F] in
/-- Something of every half-slot is something of the own two and of those that come from either side. -/
theorem all_hs (c : Dev nD) (Φ : Fin 32 → sProp 𝕄) :
    bigSep Finset.univ Φ = iprop(Φ (hsS true c 0) ∗ Φ (hsS true c 1)
      ∗ (bigSep (Finset.range 15) fun t => Φ (hsR true c t)) ∗ bigSep (Finset.range 15) fun t => Φ (hsR false c t)) := by
  rw [bigSep_univ_eq_bigSepL (allHs c) (by ext hs; simp only [Finset.mem_univ, List.mem_toFinset, allHs_mem]) (allHs_nodup c)]
  unfold allHs
  rw [bigSepL_cons', bigSepL_cons', bigSepL_append, bigSepL_map, bigSepL_map]
  rw [bigSep_eq_bigSepL_of_eq (S := Finset.range 15) (List.range 15) (by decide) (by decide),
    bigSep_eq_bigSepL_of_eq (S := Finset.range 15) (List.range 15) (by decide) (by decide)]

/-- The half-slots of a device that the neighbour on the side `d` comes from writes. -/
def entry (d : Bool) (c : Dev nD) : sProp 𝕄 := bigSep (Finset.range 15) fun t => slotAny (F := F) c (hsR d c t)

omit [FloatOps F] in
/-- They are what the handshake hands that neighbour. -/
theorem barPay_entry (d : Bool) (c : Dev nD) : barPay (F := F) (nb (!d) c) d = entry d c := by
  unfold barPay entry
  simp only [nb_nb', hsS_nb']

omit [FloatOps F] in
/-- The gather buffer, cut. -/
theorem comm_cut (c : Dev nD) :
    iprop(∃ f : Buf (Elt F) ((c : Thread nD τ).loc cc0_scratch0), ((c : Thread nD τ).loc cc0_scratch0) ↦{fullShare} f)
      ⊢ (iprop(slotAny c (hsS true c 0) ∗ slotAny c (hsS true c 1) ∗ entry true c ∗ entry false c) : sProp 𝕄) := by
  iintro ⟨%f, H⟩
  ihave H := (Entails.of_eq (Ring.pointsTo_blocks hset hset_apart hset_cover f)) $$ H
  iapply (Entails.of_eq (all_hs c fun hs => slotAny (F := F) c hs))
  have h (hs : Fin 32) : (slotAt (F := F) c hs fullShare f : sProp 𝕄) ⊢ slotAny c hs := by
    unfold slotAny; iintro H; iexists f; iexact H
  have h' : (bigSep Finset.univ fun hs => (((c : Thread nD τ).loc cc0_scratch0) ↦[hset hs]{fullShare} f : sProp 𝕄))
      ⊢ bigSep Finset.univ fun hs => slotAny (F := F) c hs := bigSep_mono fun hs _ => h hs
  iapply h'
  iexact H

/-- The gather buffer, put together. -/
theorem comm_join (c : Dev nD) :
    iprop(slot m c (hsS true c 0) fullShare ∗ slot m c (hsS true c 1) fullShare
        ∗ (bigSep (Finset.range 15) fun t => slot m c (hsR true c t) fullShare) ∗ bigSep (Finset.range 15) fun t => slot m c (hsR false c t) fullShare)
      ⊢ iprop(∃ f : Buf (Elt F) ((c : Thread nD τ).loc cc0_scratch0), ((c : Thread nD τ).loc cc0_scratch0) ↦{fullShare} f) := by
  rw [← all_hs c fun hs => slot m c hs fullShare]
  iintro H
  iexists (commV m)
  iapply (Entails.of_eq (Ring.pointsTo_blocks hset hset_apart hset_cover (commV m)).symm)
  unfold slot slotAt
  iexact H

/-! ## The own block -/

/-- Where the own block lies. -/
abbrev ownRect (c : Dev nD) : Rect S32x128x4096 := Rect.unit (s := S32x128x4096) (k0_off1 c) S2x128x4096.size (k0_off1_inb c)

theorem own_emb (c : Dev nD) (x : (ownRect c).shape.Idx) :
    ((gM.access (ownRect c)).emb x (0 : Fin 3)).val = 2 * (pos c).val + (x (0 : Fin 3)).val
      ∧ ((gM.access (ownRect c)).emb x (1 : Fin 3)).val = (x (1 : Fin 3)).val
      ∧ ((gM.access (ownRect c)).emb x (2 : Fin 3)).val = (x (2 : Fin 3)).val := by
  have h := off1_eq c
  refine ⟨?_, ?_, ?_⟩
  · show k0_off1 c (0 : Fin 3) + 1 * (x (0 : Fin 3)).val = _
    rw [h, Nat.one_mul]; rfl
  · show k0_off1 c (1 : Fin 3) + 1 * (x (1 : Fin 3)).val = _
    rw [h, Nat.one_mul]; exact Nat.zero_add _
  · show k0_off1 c (2 : Fin 3) + 1 * (x (2 : Fin 3)).val = _
    rw [h, Nat.one_mul]; exact Nat.zero_add _

theorem own_hs (c : Dev nD) : (hsS true c 0).val = 2 * (pos c).val ∧ (hsS true c 1).val = 2 * (pos c).val + 1 := by
  have := (pos c).isLt
  constructor <;> simp only [hsS, if_true] <;> omega

theorem own_set (c : Dev nD) : (gM.access (ownRect c)).set ⊆ hset (hsS true c 0) ∪ hset (hsS true c 1) := by
  intro i hi
  obtain ⟨x, -, rfl⟩ := Finset.mem_map.mp hi
  have h1 := (own_emb c x).1
  have h2 := own_hs c
  have h0 : (x (0 : Fin 3)).val < 2 := (x (0 : Fin 3)).isLt
  rw [Finset.mem_union, mem_hset, mem_hset]
  omega

/-- The own block stored: its two half-slots hold what they are to hold. -/
theorem own_stored (c : Dev nD) (f : Buf (Elt F) ((c : Thread nD τ).loc cc0_scratch0)) (i : S32x128x4096.Idx)
    (hi : i ∈ hset (hsS true c 0) ∪ hset (hsS true c 1)) :
    ((gM.access (ownRect c)).write (Elt F) f (k0_pay2 (xstg m c)) Finset.univ) i = commV m i := by
  rw [Finset.mem_union, mem_hset, mem_hset, (own_hs c).1, (own_hs c).2] at hi
  have hx : i = (gM.access (ownRect c)).emb (ix3 (n0 := 2) (n1 := 128) (n2 := 4096) ⟨(i (0 : Fin 3)).val % 2, Nat.mod_lt _ (by decide)⟩ (i (1 : Fin 3)) (i (2 : Fin 3))) := by
    obtain ⟨e0, e1, e2⟩ := own_emb c (ix3 (n0 := 2) (n1 := 128) (n2 := 4096) ⟨(i (0 : Fin 3)).val % 2, Nat.mod_lt _ (by decide)⟩ (i (1 : Fin 3)) (i (2 : Fin 3)))
    funext a
    apply Fin.ext
    fin_cases a
    · refine Eq.trans ?_ e0.symm
      show (i (0 : Fin 3)).val = 2 * (pos c).val + (i (0 : Fin 3)).val % 2
      omega
    · exact e1.symm
    · exact e2.symm
  conv_lhs => rw [hx]
  rw [View.write_emb_of_mem _ _ (Finset.mem_univ _)]
  unfold commV
  rw [show (⟨(i (0 : Fin 3)).val / 2, by have : (i (0 : Fin 3)).val < 32 := (i (0 : Fin 3)).isLt; omega⟩ : Fin 16) = pos c from Fin.ext (by show _ / 2 = _; omega), rg_pos]
  rfl

theorem own_ne (c : Dev nD) : hsS true c 0 ≠ hsS true c 1 := fun h => by have h1 := own_hs c; rw [h] at h1; omega

omit [FloatOps F] in
/-- The own two half-slots, held together. -/
theorem own_join (c : Dev nD) (f g) :
    iprop(slotAt (F := F) c (hsS true c 0) fullShare f ∗ slotAt c (hsS true c 1) fullShare g)
      ⊢ (iprop(∃ h : Buf (Elt F) ((c : Thread nD τ).loc cc0_scratch0),
        ((c : Thread nD τ).loc cc0_scratch0) ↦[hset (hsS true c 0) ∪ hset (hsS true c 1)]{fullShare} h) : sProp 𝕄) := by
  unfold slotAt
  iintro H
  iexists _
  iapply (pointsTo_join (ℓ := (c : Thread nD τ).loc cc0_scratch0) (I := hset (hsS true c 0)) (J := hset (hsS true c 1)) (hset_apart _ _ (own_ne c)))
  iexact H

/-- And after the store, one by one. -/
theorem own_put (c : Dev nD) (f : Buf (Elt F) ((c : Thread nD τ).loc cc0_scratch0)) :
    (((c : Thread nD τ).loc cc0_scratch0) ↦[hset (hsS true c 0) ∪ hset (hsS true c 1)]{fullShare}
        ((gM.access (ownRect c)).write (Elt F) f (k0_pay2 (xstg m c)) Finset.univ))
      ⊢ iprop(slot m c (hsS true c 0) fullShare ∗ slot m c (hsS true c 1) fullShare) := by
  have h : (((c : Thread nD τ).loc cc0_scratch0) ↦[hset (hsS true c 0) ∪ hset (hsS true c 1)]{fullShare}
        ((gM.access (ownRect c)).write (Elt F) f (k0_pay2 (xstg m c)) Finset.univ) : sProp 𝕄)
      = (((c : Thread nD τ).loc cc0_scratch0) ↦[hset (hsS true c 0) ∪ hset (hsS true c 1)]{fullShare} (commV m)) :=
    pointsTo_congr fun i hi => own_stored m c f i hi
  rw [h]
  exact (pointsTo_union (ℓ := (c : Thread nD τ).loc cc0_scratch0) (I := hset (hsS true c 0)) (J := hset (hsS true c 1)) (hset_apart _ _ (own_ne c))).1

/-! ## The prologue -/

/-- What a device needs for the handshake. -/
def barG (c : Dev nD) : sProp 𝕄 :=
  iprop(atPos ER (barC c) 0 ∅ 0 ∗ cred (tallyAt (barC c) () 2) ∗ dutyTok ER (barC (nb false c)) 0 true ∗ dutyTok ER (barC (nb true c)) 0 false)
/-- A staged input. -/
def xPt (c : Dev nD) : sProp 𝕄 := ((c : Thread nD τ).loc cc0_stg0_0) ↦{fullShare} (xstg m c)
def wPt (c : Dev nD) : sProp 𝕄 := ((c : Thread nD τ).loc cc0_stg1_0) ↦{fullShare} (wstg m c)

theorem hz2 : (![0, 0] : Fin 2 → Nat) = fun _ => 0 := funext fun a => by fin_cases a <;> rfl

/-- A load of a staged input gives its contents. -/
theorem read_w (f : (cc0_stg1_0 : Ref sig .tc).ty.Contents (Elt F)) :
    wM.view.readAt (Elt F) (Rect.unit (s := S4096x128) ![0, 0] S4096x128.size inb_S4096x128_S4096x128_0_0).toLoadRect f = f :=
  Memref.readAt_unit_zero (Elt F) cc0_stg1_0 hz2 _ f
theorem read_x (f : (cc0_stg0_0 : Ref sig .tc).ty.Contents (Elt F)) :
    xM.view.readAt (Elt F) (Rect.unit (s := S256x4096) ![0, 0] S256x4096.size inb_S256x4096_S256x4096_0_0).toLoadRect f = f :=
  Memref.readAt_unit_zero (Elt F) cc0_stg0_0 hz2 _ f

/-- The handshake pays one unit. -/
theorem one_unit (c : Dev nD) (d : Bool) : (rd (F := F) m).amount (barC c) 0 d = 1 := rfl

/-- The handshake. -/
def shake (c : Dev nD) : Pg F PUnit := do
  semSignalWord (⟨k0_dev1 c, k0_dev1_lt c⟩ : Dev nD) barSems.sem 1#32
  semSignalWord (⟨k0_dev2 c, k0_dev2_lt c⟩ : Dev nD) barSems.sem 1#32
  semWaitWord barSems.sem 2#32

/-- The own block copied into its slot, the weights read. -/
def fill (c : Dev nD) : Pg F (FVec F S4096x128 .bf16) := do
  let w : Vec F S4096x128 .bf16 ← Prog.lift (.load wM (Rect.unit (s := S4096x128) ![0, 0] S4096x128.size inb_S4096x128_S4096x128_0_0).toLoadRect (View.loadsAt_vmem h_S4096x128))
  let x : Vec F S256x4096 .bf16 ← Prog.lift (.load xM (Rect.unit (s := S256x4096) ![0, 0] S256x4096.size inb_S256x4096_S256x4096_0_0).toLoadRect (View.loadsAt_vmem h_S256x4096))
  let _u : Vec F S2x128x4096 .bf16 ← Prog.lift (.load gM (ownRect c).toLoadRect (View.loadsAt_vmem h_S2x128x4096))
  Prog.lift (.store gM (ownRect c) (k0_pay2 x) Finset.univ (View.stores_vmem h_S2x128x4096 (hgM.storeExact_slice rfl _ (k0_off1_packedbf16 c)) (fun _ => rfl)) (.inl rfl))
  pure (k0_pay1 w)

theorem prologue_cut (c : Dev nD) : prologue (F := F) xM wM gM hgM c = shake c >>= fun _ => fill c := rfl

/-- The handshake: the neighbours' half-slots are had. -/
theorem wp_shake (c : Dev nD) (Q : PUnit → sProp 𝕄) :
    iprop(recs m ∗ levAts L lv ∗ barG c ∗ entry true c ∗ entry false c ∗ ow c (O₀ c))
      ⊢ iprop(((atPos ER (barC c) 1 ∅ 0 ∗ barPay c true ∗ barPay c false ∗ ow c (owe c 0)) -∗ Q ⟨⟩)
        -∗ runs c (shake c) Q) := by
  have hR := recs_bar m
  unfold known at hR
  unfold shake barG ow
  simp only [semSignalWord, semWaitWord, Prog.bind_op, Prog.bind_ret]
  iintro ⟨#HR, #Hlev, ⟨Hat, Hcr, Ht1, Ht2⟩, He1, He2, ⟨%W, HO⟩⟩ Hk
  ihave #HB := (hR c) $$ HR
  ihave #HB1 := (hR (nb false c)) $$ HR
  ihave #HB2 := (hR (nb true c)) $$ HR
  icases HB with ⟨%κ, HI, -⟩
  icases HB1 with ⟨%κ₁, HI1, Hr1⟩
  icases HB2 with ⟨%κ₂, HI2, Hr2⟩
  simp only [dev1_eq c, dev2_eq c]
  iapply (Rounds.wp_signal 𝒱₀ ER (rd m) (c : Thread nD τ) none (dst := (nb false c : Thread nD τ)) (κ := κ₁)
      (d := true) (by rw [duties_bar]; exact Finset.mem_univ _) ((one_unit m (nb false c) true).trans (by decide)) ()
      (owe c 0 + tallyAt (barC (nb true c)) () 1) rfl) $$ [HO Ht1 He1]
  · isplitr; · iexact HI1
    isplitl [HO]; · iexact HO
    isplitl [Ht1]; · iexact Ht1
    isplitl [He1]
    · iapply (Entails.of_eq (show entry (F := F) true c = (rd m).payload (barC (nb false c)) 0 true from (barPay_entry true c).symm)); iexact He1
    iexact Hr1
  iintro HO
  iapply (Rounds.wp_signal 𝒱₀ ER (rd m) (c : Thread nD τ) none (dst := (nb true c : Thread nD τ)) (κ := κ₂)
      (d := false) (by rw [duties_bar]; exact Finset.mem_univ _) ((one_unit m (nb true c) false).trans (by decide)) ()
      (owe c 0) rfl) $$ [HO Ht2 He2]
  · isplitr; · iexact HI2
    isplitl [HO]; · iexact HO
    isplitl [Ht2]; · iexact Ht2
    isplitl [He2]
    · iapply (Entails.of_eq (show entry (F := F) false c = (rd m).payload (barC (nb true c)) 0 false from (barPay_entry false c).symm)); iexact He2
    iexact Hr2
  iintro HO
  iapply (Rounds.wp_wait_rest_token 𝒱₀ ER (rd m) (c : Thread nD τ) none (κ := κ)
      (wpE_semWait_eq 𝒱₀ (c : Thread nD τ) none Set.univ) (Set.mem_univ _) () (O := owe c 0) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait_owe c (.reg barS) 0 (by show 1 < 2; omega)); iexact Hlev
    iexact Hat
  iintro ⟨HO, Hat, -, Hp⟩
  ihave Hp := (Entails.of_eq (rest_bar m c)) $$ Hp
  icases Hp with ⟨Hp1, Hp2⟩
  rw [wp_ret]
  imodintro
  iapply Hk
  isplitl [Hat]; · iexact Hat
  isplitl [Hp1]; · iexact Hp1
  isplitl [Hp2]; · iexact Hp2
  iexists _; iexact HO

/-- The own block is put in its place. -/
theorem wp_fill (c : Dev nD) (Q : FVec F S4096x128 .bf16 → sProp 𝕄) :
    iprop(slotAny c (hsS true c 0) ∗ slotAny c (hsS true c 1) ∗ xPt m c ∗ wPt m c)
      ⊢ iprop(((slot m c (hsS true c 0) fullShare ∗ slot m c (hsS true c 1) fullShare ∗ xPt m c ∗ wPt m c) -∗ Q (k0_pay1 (wstg m c)))
        -∗ runs c (fill c) Q) := by
  unfold fill xPt wPt
  simp only [Prog.lift, Prog.bind_op, Prog.bind_ret, Prog.pure_eq_ret]
  iintro ⟨Hs0, Hs1, Hx, Hw⟩ Hk
  iapply (wp_load 𝒱₀ (c : Thread nD τ) none Set.univ (m := wM) (Finset.subset_univ _)) $$ Hw
  iintro Hw
  rw [read_w]
  iapply (wp_load 𝒱₀ (c : Thread nD τ) none Set.univ (m := xM) (Finset.subset_univ _)) $$ Hx
  iintro Hx
  rw [read_x]
  unfold slotAny
  icases Hs0 with ⟨%f0, Hs0⟩
  icases Hs1 with ⟨%f1, Hs1⟩
  ihave Hs := (own_join (F := F) c f0 f1) $$ [Hs0 Hs1]
  · isplitl [Hs0]; · iexact Hs0
    iexact Hs1
  icases Hs with ⟨%f2, Hs⟩
  iapply (wp_load_rect 𝒱₀ (c : Thread nD τ) none Set.univ (m := gM) (r := ownRect c) (own_set c)) $$ Hs
  iintro Hs
  iapply (wp_store 𝒱₀ (c : Thread nD τ) none Set.univ (m := gM) (r := ownRect c) (Mk := Finset.univ) (own_set c)) $$ Hs
  iintro Hs
  ihave Hs := (own_put m c f2) $$ Hs
  icases Hs with ⟨Hs0, Hs1⟩
  rw [wp_ret]
  imodintro
  iapply Hk
  isplitl [Hs0]; · iexact Hs0
  isplitl [Hs1]; · iexact Hs1
  isplitl [Hx]; · iexact Hx
  iexact Hw

/-- The prologue: the neighbours' half-slots are had, the own block is in its place, the weights are read. -/
theorem wp_prologue (c : Dev nD) (Q : FVec F S4096x128 .bf16 → sProp 𝕄) :
    iprop(recs m ∗ levAts L lv ∗ barG c ∗ entry true c ∗ entry false c ∗ slotAny c (hsS true c 0) ∗ slotAny c (hsS true c 1)
        ∗ xPt m c ∗ wPt m c ∗ ow c (O₀ c))
      ⊢ iprop(((atPos ER (barC c) 1 ∅ 0 ∗ barPay c true ∗ barPay c false ∗ slot m c (hsS true c 0) fullShare ∗ slot m c (hsS true c 1) fullShare
            ∗ xPt m c ∗ wPt m c ∗ ow c (owe c 0)) -∗ Q (k0_pay1 (wstg m c)))
        -∗ runs c (prologue xM wM gM hgM c) Q) := by
  rw [prologue_cut, runs_bind]
  iintro ⟨#HR, #Hlev, Hb, He1, He2, Hs0, Hs1, Hx, Hw, HO⟩ Hk
  iapply (wp_shake m c _) $$ [Hb He1 He2 HO]
  · isplitr; · iexact HR
    isplitr; · iexact Hlev
    isplitl [Hb]; · iexact Hb
    isplitl [He1]; · iexact He1
    isplitl [He2]; · iexact He2
    iexact HO
  iintro ⟨Hat, Hp1, Hp2, HO⟩
  iapply (wp_fill m c _) $$ [Hs0 Hs1 Hx Hw]
  · isplitl [Hs0]; · iexact Hs0
    isplitl [Hs1]; · iexact Hs1
    isplitl [Hx]; · iexact Hx
    iexact Hw
  iintro ⟨Hs0, Hs1, Hx, Hw⟩
  iapply Hk
  isplitl [Hat]; · iexact Hat
  isplitl [Hp1]; · iexact Hp1
  isplitl [Hp2]; · iexact Hp2
  isplitl [Hs0]; · iexact Hs0
  isplitl [Hs1]; · iexact Hs1
  isplitl [Hx]; · iexact Hx
  isplitl [Hw]; · iexact Hw
  iexact HO

/-! ## The whole body -/

/-- What a device needs for step `t` in direction `d` besides half-slots. -/
def ready (d : Bool) (c : Dev nD) (t : ℕ) : sProp 𝕄 :=
  iprop((dutyTok ER (cell false d c (hsS d c t)) 0 false ∗ dutyTok ER (cell true d (nb d c) (hsS d c t)) 0 false) ∗ todoW (F := F) d c t)

omit [FloatOps F] in
/-- With the neighbour's half-slots, every step of a direction can be done. -/
theorem todo_all (d : Bool) (c : Dev nD) :
    iprop(barPay c d ∗ bigSep (Finset.range 15) (ready (F := F) d c)) ⊢ (bigSep (Finset.Ico 0 15) (todo (F := F) d c) : sProp 𝕄) := by
  unfold barPay ready todo todoS
  rw [← Finset.range_eq_Ico, ← bigSep_sep']
  have h (t : ℕ) : iprop(slotAny (F := F) (nb d c) (hsS d c t)
        ∗ (dutyTok ER (cell false d c (hsS d c t)) 0 false ∗ dutyTok ER (cell true d (nb d c) (hsS d c t)) 0 false) ∗ todoW (F := F) d c t)
      ⊢ iprop((slotAny (F := F) (nb d c) (hsS d c t)
        ∗ dutyTok ER (cell false d c (hsS d c t)) 0 false ∗ dutyTok ER (cell true d (nb d c) (hsS d c t)) 0 false) ∗ todoW (F := F) d c t) := by
    iintro ⟨H1, ⟨H2, H3⟩, H4⟩
    isplitl [H1 H2 H3]
    · isplitl [H1]; · iexact H1
      isplitl [H2]; · iexact H2
      iexact H3
    iexact H4
  exact bigSep_mono fun t _ => h t

/-- A cell's counter at zero. -/
def zer (s d : Bool) (c : Dev nD) (t : ℕ) : sProp 𝕄 := semVal (cell s d c (hsC s d c t)) 0

/-- At the end of a direction its cells close. -/
theorem close_dir (d : Bool) (c : Dev nD) :
    iprop(recs m ∗ bigSep (Finset.range 15) (done m d c))
      ⊢ |={Set.univ}=> iprop((bigSep (Finset.range 15) fun t => slot m c (hsR d c t) fullShare)
          ∗ bigSep (Finset.range 15) (zer (F := F) false d c) ∗ bigSep (Finset.range 15) (zer (F := F) true d c)) := by
  rw [← bigSep_sep', ← bigSep_sep']
  refine (bigSep_with_persistent (Ψ := fun t => iprop(|={Set.univ}=> (slot m c (hsR d c t) fullShare ∗ zer (F := F) false d c t ∗ zer (F := F) true d c t)))
    fun t ht => ?_).trans (bigSep_fupd _ _)
  have h1 (s : Bool) := recs_own m s d c t (Finset.mem_range.mp ht)
  unfold known at h1
  unfold done at_ zer
  iintro ⟨#HR, Hs, Ha, Hb⟩
  ihave #HA := (h1 false) $$ HR
  ihave #HB := (h1 true) $$ HR
  icases HA with ⟨%κ, HA, -⟩
  icases HB with ⟨%κ', HB, -⟩
  imod (Rounds.cell_close ER (rd m) (Set.mem_univ κ) (fun h => h) (R := 0 + 1) (duties_later m _)) $$ [Ha] with Hza
  · isplitr; · iexact HA
    iexact Ha
  imod (Rounds.cell_close ER (rd m) (Set.mem_univ κ') (fun h => h) (R := 0 + 1) (duties_later m _)) $$ [Hb] with Hzb
  · isplitr; · iexact HB
    iexact Hb
  imodintro
  isplitl [Hs]; · iexact Hs
  isplitl [Hza]; · iexact Hza
  iexact Hzb

/-- What a device's body starts from; -/
def pre (c : Dev nD) : sProp 𝕄 :=
  iprop(recs m ∗ levAts L lv ∗ barG c ∗ bigSep (Finset.range 15) (ready (F := F) true c) ∗ bigSep (Finset.range 15) (ready (F := F) false c))
/-- and the counters it ends with. -/
def zeros (c : Dev nD) : sProp 𝕄 :=
  iprop(semVal (barC c) 0 ∗ (bigSep (Finset.range 15) (zer (F := F) false true c) ∗ bigSep (Finset.range 15) (zer (F := F) true true c))
    ∗ (bigSep (Finset.range 15) (zer (F := F) false false c) ∗ bigSep (Finset.range 15) (zer (F := F) true false c)))

/-- The whole body. -/
theorem wp_body (c : Dev nD) (Q : PUnit → sProp 𝕄) :
    iprop(pre m c ∗ (∃ f : Buf (Elt F) ((c : Thread nD τ).loc cc0_scratch0), ((c : Thread nD τ).loc cc0_scratch0) ↦{fullShare} f)
        ∗ xPt m c ∗ wPt m c ∗ (∃ f : Buf (Elt F) ((c : Thread nD τ).loc cc0_stg2_0), ((c : Thread nD τ).loc cc0_stg2_0) ↦{fullShare} f) ∗ ow c (O₀ c))
      ⊢ iprop((((∃ f : Buf (Elt F) ((c : Thread nD τ).loc cc0_scratch0), ((c : Thread nD τ).loc cc0_scratch0) ↦{fullShare} f) ∗ zeros c
            ∗ xPt m c ∗ wPt m c ∗ (((c : Thread nD τ).loc cc0_stg2_0) ↦{fullShare} (outT m c)) ∗ ow c 0) -∗ Q ⟨⟩)
        -∗ runs c (body xM wM oM gM hgM cc0_scratch1 cc0_scratch2 cc0_scratch3 cc0_scratch4) Q) := by
  unfold pre body
  iintro ⟨⟨#HR, #Hlev, Hbar, Hrt, Hrf⟩, Hcomm, Hx, Hw, Hout, HO⟩ Hk
  iapply wp_fupd
  simp only [Prog.lift, Prog.bind_op, Prog.bind_ret, wp_deviceId, wp_bind]
  ihave Hcomm := (comm_cut (F := F) c) $$ Hcomm
  icases Hcomm with ⟨Hs0, Hs1, Het, Hef⟩
  iapply (wp_prologue m c _) $$ [Hbar Het Hef Hs0 Hs1 Hx Hw HO]
  · isplitr; · iexact HR
    isplitr; · iexact Hlev
    isplitl [Hbar]; · iexact Hbar
    isplitl [Het]; · iexact Het
    isplitl [Hef]; · iexact Hef
    isplitl [Hs0]; · iexact Hs0
    isplitl [Hs1]; · iexact Hs1
    isplitl [Hx]; · iexact Hx
    isplitl [Hw]; · iexact Hw
    iexact HO
  iintro ⟨Hat, Hpt, Hpf, Hs0, Hs1, Hx, Hw, HO⟩
  ihave Ht := (todo_all (F := F) true c) $$ [Hpt Hrt]
  · isplitl [Hpt]; · iexact Hpt
    iexact Hrt
  ihave Hf := (todo_all (F := F) false c) $$ [Hpf Hrf]
  · isplitl [Hpf]; · iexact Hpf
    iexact Hrf
  iapply (wp_hopFirst m c _) $$ [Hs0 Hs1 Ht Hf HO Hout]
  · isplitr; · iexact HR
    isplitr; · iexact Hlev
    unfold st dir
    rw [Finset.range_zero, bigSep_empty, bigSep_empty]
    isplitl [Hs0]; · iexact Hs0
    isplitl [Hs1]; · iexact Hs1
    isplitl [Ht]
    · isplitr; · iempintro
      iexact Ht
    isplitl [Hf]
    · isplitr; · iempintro
      iexact Hf
    isplitl [HO]; · iexact HO
    unfold outSt
    icases Hout with ⟨%f, Hout⟩
    iexists f
    isplitr
    · ipureintro
      rintro i ⟨d, t, ht, -⟩
      exact absurd ht (Nat.not_lt_zero _)
    iexact Hout
  iintro Hst
  iapply (wp_hopMid m c 0 0 rfl _) $$ [Hst]
  · isplitr; · iexact HR
    isplitr; · iexact Hlev
    iexact Hst
  iintro Hst
  iapply (wp_hopMid m c 1 2 rfl _) $$ [Hst]
  · isplitr; · iexact HR
    isplitr; · iexact Hlev
    iexact Hst
  iintro Hst
  iapply (wp_hopMid m c 2 4 rfl _) $$ [Hst]
  · isplitr; · iexact HR
    isplitr; · iexact Hlev
    iexact Hst
  iintro Hst
  iapply (wp_hopMid m c 3 6 rfl _) $$ [Hst]
  · isplitr; · iexact HR
    isplitr; · iexact Hlev
    iexact Hst
  iintro Hst
  iapply (wp_hopMid m c 4 8 rfl _) $$ [Hst]
  · isplitr; · iexact HR
    isplitr; · iexact Hlev
    iexact Hst
  iintro Hst
  iapply (wp_hopMid m c 5 10 rfl _) $$ [Hst]
  · isplitr; · iexact HR
    isplitr; · iexact Hlev
    iexact Hst
  iintro Hst
  have hl := wp_hopLast m c
  simp only [wp_bind] at hl
  iapply (hl _) $$ [Hst]
  · isplitr; · iexact HR
    isplitr; · iexact Hlev
    iexact Hst
  unfold fin
  iintro ⟨Hs0, Hs1, Ht, Hf, HO, Hout⟩
  imod (close_dir m true c) $$ [Ht] with ⟨Ht, Hzt, Hzt'⟩
  · isplitr; · iexact HR
    iexact Ht
  imod (close_dir m false c) $$ [Hf] with ⟨Hf, Hzf, Hzf'⟩
  · isplitr; · iexact HR
    iexact Hf
  have hR := recs_bar m c
  unfold known at hR
  ihave #HB := hR $$ HR
  icases HB with ⟨%κ, HI, -⟩
  imod (Rounds.cell_close ER (rd m) (Set.mem_univ κ) (fun h => h) (R := 0 + 1) (duties_later m (barC c))) $$ [Hat] with Hzb
  · isplitr; · iexact HI
    iexact Hat
  imodintro
  iapply Hk
  isplitl [Hs0 Hs1 Ht Hf]
  · iapply (comm_join m c)
    isplitl [Hs0]; · iexact Hs0
    isplitl [Hs1]; · iexact Hs1
    isplitl [Ht]; · iexact Ht
    iexact Hf
  unfold zeros
  isplitl [Hzb Hzt Hzt' Hzf Hzf']
  · isplitl [Hzb]; · iexact Hzb
    isplitl [Hzt Hzt']
    · isplitl [Hzt]; · iexact Hzt
      iexact Hzt'
    isplitl [Hzf]; · iexact Hzf
    iexact Hzf'
  isplitl [Hx]; · iexact Hx
  isplitl [Hw]; · iexact Hw
  isplitl [Hout]
  · unfold outSt
    icases Hout with ⟨%f, %hf, Hout⟩
    rw [show f = outT m c from funext fun i => hf i trivial]
    iexact Hout
  iexact HO

end Cert.KernelIdeal.Hop

end
-- ==== Proof.RunIdeal.lean ====
module

public import proofs.«01_k».proof.Proof.BodyIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

/-! # The launch, and the run

The ghost state of all devices is minted at once, the cells' invariants are allocated, each device gets the tokens of the
duties it pays; then every device runs the body, and the arrays at the end are read. -/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The state at the start: any memory, counters at zero. -/
def s₀ : MemSt nD τ sig (Elt F) := ⟨m, fun _ => 0, ρ⟩

/-! ## The kernel's own semaphores: used and unused -/

/-- The kernel's own semaphores. -/
abbrev osem (k : Bool × Bool × Fin 32) : SemLoc sig := .dma (semOf k.1 k.2.1 k.2.2)

theorem ownSemFacts : Pipeline.OwnSemFacts cfg0.spec osem := by decide +kernel

/-- The used ones of device `c`. -/
def used (c : Dev nD) (p : Bool × Bool × Fin 15) : Bool × Bool × Fin 32 := (p.1, p.2.1, hsC p.1 p.2.1 c p.2.2)

theorem hsC_inj (s d : Bool) (c : Dev nD) (t t' : Fin 15) (h : hsC s d c t = hsC s d c t') : t = t' := by
  cases s
  · exact hsS_inj d c t t' h
  · exact hsR_inj d c t t' h

theorem used_inj (c : Dev nD) : Function.Injective (used c) := by
  rintro ⟨s, d, t⟩ ⟨s', d', t'⟩ h
  obtain rfl : s = s' := congrArg Prod.fst h
  obtain rfl : d = d' := congrArg (fun x => x.2.1) h
  obtain rfl : t = t' := hsC_inj s d c t t' (congrArg (fun x => x.2.2) h)
  rfl

/-- The counters of the unused ones, at zero throughout. -/
def unused (c : Dev nD) : sProp 𝕄 :=
  bigSep (Finset.univ \ Finset.univ.image (used c)) fun k => semVal ((c : Thread nD τ), osem k) 0

omit [FloatOps F] in
/-- Something of every step, on both sides, in both directions. -/
theorem all_steps (Φ : Bool → Bool → ℕ → sProp 𝕄) :
    (bigSep Finset.univ fun p : Bool × Bool × Fin 15 => Φ p.1 p.2.1 p.2.2.val)
      = iprop((bigSep (Finset.range 15) (Φ false true) ∗ bigSep (Finset.range 15) (Φ true true))
          ∗ (bigSep (Finset.range 15) (Φ false false) ∗ bigSep (Finset.range 15) (Φ true false))) := by
  have h (s d : Bool) : (bigSep Finset.univ fun t : Fin 15 => Φ s d t.val) = bigSep (Finset.range 15) (Φ s d) :=
    Ring.bigSep_fin_eq_range 15 _ _ fun _ _ => rfl
  have hb (s : Bool) (Ψ : Bool → sProp 𝕄) : bigSep Finset.univ Ψ = iprop(Ψ s ∗ Ψ (!s)) :=
    bigSep_univ_eq_bigSepL [s, !s] (by cases s <;> decide) (by cases s <;> decide) Ψ
  rw [bigSep_univ_prod]
  simp only [bigSep_univ_prod]
  rw [BI.bigSep_univ_comm, hb true, hb false, hb false, h, h, h, h]
  rfl

omit [FloatOps F] in
/-- The kernel's own counters are those of the steps and the unused. -/
theorem ownSems0_eq (c : Dev nD) : (Pipeline.ownSems0 (Ix := Unit) (Name := ℕ) (U := UU) (Lvl := ℕ) (Val := Elt F) (τ := τ) osem c : sProp 𝕄)
    = iprop((bigSep Finset.univ fun p : Bool × Bool × Fin 15 => semVal (kcell (c, .inr p)) 0) ∗ unused c) :=
  (bigSep_sdiff_split (s := Finset.univ) (t := Finset.univ.image (used c)) (Finset.subset_univ _)
      (Φ := fun k => (semVal ((c : Thread nD τ), osem k) 0 : sProp 𝕄))).trans
    (congrArg (fun P => iprop(P ∗ unused c)) (bigSep_image_of_injOn (fun _ _ _ _ h => used_inj c h) _))

omit [FloatOps F] in
theorem ownSems0_zer (c : Dev nD) : (Pipeline.ownSems0 (Ix := Unit) (Name := ℕ) (U := UU) (Lvl := ℕ) (Val := Elt F) (τ := τ) osem c : sProp 𝕄)
    = iprop(((bigSep (Finset.range 15) (zer (F := F) false true c) ∗ bigSep (Finset.range 15) (zer (F := F) true true c))
        ∗ (bigSep (Finset.range 15) (zer (F := F) false false c) ∗ bigSep (Finset.range 15) (zer (F := F) true false c))) ∗ unused c) := by
  rw [ownSems0_eq, ← all_steps fun s d t => zer s d c t]
  rfl

omit [FloatOps F] in
/-- The entry semaphore is the one that is not the kernel's own. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-! ## The pipeline's data -/

/-- Before the point; -/
def Φ₀ (c : Dev nD) : sProp 𝕄 :=
  iprop((pre m c ∗ unused c) ∗ ∃ f : Buf (Elt F) ((c : Thread nD τ).loc cc0_scratch0), ((c : Thread nD τ).loc cc0_scratch0) ↦{fullShare} f)
/-- and after it. -/
def Φ₁ (c : Dev nD) : sProp 𝕄 :=
  iprop((∃ f : Buf (Elt F) ((c : Thread nD τ).loc cc0_scratch0), ((c : Thread nD τ).loc cc0_scratch0) ↦{fullShare} f)
    ∗ semVal (barC c) 0 ∗ Pipeline.ownSems0 (Ix := Unit) (Name := ℕ) (U := UU) (Lvl := ℕ) (Val := Elt F) (τ := τ) osem c)

/-- What the staging buffers hold after the body, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outT m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer at given contents, as the pipeline says it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (xstg m c) ∗ stg c cc0_stg1_0 (wstg m c) ∗ stg c cc0_stg2_0 (outT m c))

/-- The printed body, from what the pipeline hands over to what it takes back. -/
theorem sound_body (c : Dev nD) :
    bodyPre m ρ c ⊢ runs c (cc0_body xM (Memref.isWhole_whole _) wM (Memref.isWhole_whole _) oM (Memref.isWhole_whole _)
      gM hgM cc0_scratch1 cc0_scratch2 cc0_scratch3 cc0_scratch4) fun _ => bodyPost m ρ c := by
  rw [body_eq]
  unfold bodyPre Φ₀
  iintro ⟨⟨⟨Hpre, Hun⟩, Hcomm⟩, Ho, ⟨%d0, %g0, %hg0, Hx⟩, ⟨%d1, %g1, %hg1, Hw⟩, ⟨%d2, %g2, -, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (wp_body m c _) $$ [Hpre Hcomm Hx Hw Hout HO]
  · isplitl [Hpre]; · iexact Hpre
    isplitl [Hcomm]; · iexact Hcomm
    isplitl [Hx]; · unfold xPt; iexact Hx
    isplitl [Hw]; · unfold wPt; iexact Hw
    isplitl [Hout]; · iexists g2; iexact Hout
    unfold ow
    iexists W; iexact HO
  unfold zeros xPt wPt ow
  iintro ⟨Hcomm, ⟨Hzb, Hz⟩, Hx, Hw, Hout, ⟨%W', HO⟩⟩
  unfold bodyPost Φ₁ Dat.owesAt Pipeline.owesWithin
  rw [show (dats m ρ 0 c).owed t0_0.succ = 0 from rfl, ownSems0_zer]
  isplitl [Hcomm Hzb Hz Hun]
  · isplitl [Hcomm]; · iexact Hcomm
    isplitl [Hzb]; · iexact Hzb
    isplitl [Hz]; · iexact Hz
    iexact Hun
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 16000 in
/-- The body's obligation on core `c`. -/
theorem body_obligation (c : Dev nD) : BodyObligation (dats (F := F) m ρ 0 c) (defs₀ (F := F)) 𝒱₀ () Set.univ := fun t => by
  have hW (Φ : Fin cfg0.W → sProp 𝕄) : bigSep Finset.univ Φ = iprop(Φ (0 : Fin 3) ∗ Φ (1 : Fin 3) ∗ Φ (2 : Fin 3)) := bigSep_W0 Φ
  rw [show t = t0_0 from fin_N0 t]
  rw [hW, hW]
  simp only [owns_eq]
  exact sound_body m ρ c

/-! ## Minting -/

theorem cell_inj {s s' d d' : Bool} {c c' : Dev nD} {hs hs' : Fin 32} (h : cell s d c hs = cell s' d' c' hs') :
    s = s' ∧ d = d' ∧ c = c' ∧ hs = hs' := by
  have h1 : c = c' := congrArg (fun g : GSem nD τ sig => g.1.1) h
  have h2 : semOf s d hs = semOf s' d' hs' := SemLoc.dma.inj (congrArg Prod.snd h)
  exact ⟨by rw [← recvOf_sem s d hs, h2, recvOf_sem], by rw [← dirOf_sem s d hs, h2, dirOf_sem], h1, by rw [← hsOf_sem s d hs, h2, hsOf_sem]⟩

theorem bar_ne_cell {c c' : Dev nD} {s d hs} (h : barC c = cell s d c' hs) : False := by
  have h2 := congrArg Prod.snd h
  cases h2

theorem kcell_injective : Function.Injective (kcell : Dev nD × Ck → GSem nD τ sig) := by
  rintro ⟨c, k⟩ ⟨c', k'⟩ h
  rcases k with u | ⟨s, d, t⟩ <;> rcases k' with u' | ⟨s', d', t'⟩
  · obtain rfl : c = c' := congrArg (fun g : GSem nD τ sig => g.1.1) h
    rfl
  · exact (bar_ne_cell h).elim
  · exact (bar_ne_cell h.symm).elim
  · obtain ⟨rfl, rfl, rfl, h4⟩ := cell_inj h
    obtain rfl := hsC_inj s d c t t' h4
    rfl

/-- The duties of a device's own cells. -/
abbrev Tk : Type := Bool ⊕ (Bool × Bool × Fin 15)
/-- Their tokens. -/
def tokOf (p : Dev nD × Tk) : GSem nD τ sig × ℕ × Bool :=
  match p.2 with
  | .inl d => (barC p.1, 0, d)
  | .inr k => (kcell (p.1, .inr k), 0, false)

theorem tokOf_injective : Function.Injective tokOf := by
  rintro ⟨c, k⟩ ⟨c', k'⟩ h
  have h1 := congrArg Prod.fst h
  rcases k with u | ⟨s, d, t⟩ <;> rcases k' with u' | ⟨s', d', t'⟩
  · obtain rfl : c = c' := congrArg (fun g : GSem nD τ sig => g.1.1) h1
    obtain rfl : u = u' := congrArg (fun x => x.2.2) h
    rfl
  · exact (bar_ne_cell h1).elim
  · exact (bar_ne_cell h1.symm).elim
  · obtain ⟨rfl, h2⟩ := Prod.mk.inj (kcell_injective (show kcell (c, .inr (s, d, t)) = kcell (c', .inr (s', d', t')) from h1))
    rw [Sum.inr.inj h2]

def ringCells : Finset (GSem nD τ sig) := Finset.univ.map ⟨kcell, kcell_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun k : Tk => dutyTok ER (tokOf (c, k)).1 (tokOf (c, k)).2.1 (tokOf (c, k)).2.2
/-- A device's place at all its used cells. -/
def places (c : Dev nD) : sProp 𝕄 := bigSep Finset.univ fun k : Ck => atPos ER (kcell (c, k)) 0 ∅ 0
/-- That round 0 of them is reached. -/
def marks (c : Dev nD) : sProp 𝕄 := bigSep Finset.univ fun k : Ck => reached ER (kcell (c, k)) 0

/-- What the launch deals device `c`. -/
def G (c : Dev nD) : sProp 𝕄 :=
  iprop((bigSep Finset.univ fun k : Ck => roundState ER (rd m) (kcell (c, k)) 0) ∗ marks c ∗ places c ∗ toks c)

omit [FloatOps F] in
theorem by_device (Φ : GSem nD τ sig → sProp 𝕄) :
    bigSep ringCells Φ = bigSep Finset.univ fun c : Dev nD => bigSep Finset.univ fun k : Ck => Φ (kcell (c, k)) := by
  unfold ringCells; rw [bigSep_map, bigSep_univ_prod]; rfl

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst := (Entails.of_eq (by_device fun g => roundState ER (rd m) g 0)) $$ Hst
  ihave Hat := (Entails.of_eq (by_device fun g => atPos ER g 0 ∅ 0)) $$ Hat
  ihave Hr := (Entails.of_eq (by_device fun g => reached ER g 0)) $$ Hr
  ihave Htok := (Entails.of_eq hT) $$ Htok
  unfold G; simp only [bigSep_sep']
  isplitl [Hst]; · iexact Hst
  isplitl [Hr]; · unfold marks; iexact Hr
  isplitl [Hat]; · unfold places; iexact Hat
  iexact Htok

/-- The cells' invariants of one device. -/
def invs (c : Dev nD) : sProp 𝕄 := bigSep Finset.univ fun k : Ck => iprop(∃ κ : ℕ, cellInv ER (rd m) κ (kcell (c, k)))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(invs m c ∗ marks c ∗ places c ∗ toks c ∗ unused c) := by
  have hv : (bigSep Finset.univ fun k : Ck => (semVal (kcell (c, k)) 0 : sProp 𝕄))
      = iprop(semVal (barC c) 0 ∗ bigSep Finset.univ fun p : Bool × Bool × Fin 15 => semVal (kcell (c, .inr p)) 0) := by
    rw [bigSep_univ_sum, Finset.univ_unique, bigSep_singleton]; rfl
  unfold G
  rw [ownSems0_eq, unscopedSems0_eq]
  iintro ⟨⟨Hos, Hun⟩, Hus, Hst, Hr, Hat, Htok⟩
  ihave Hv := (Entails.of_eq hv.symm) $$ [Hos Hus]
  · isplitl [Hus] <;> iassumption
  imod (show iprop((bigSep Finset.univ fun k : Ck => semVal (kcell (c, k)) 0) ∗ bigSep Finset.univ fun k : Ck => roundState ER (rd m) (kcell (c, k)) 0)
      ⊢ (|={Set.univ}=> invs m c : sProp 𝕄) from by
        unfold invs
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hun

/-! ## Dealing -/

/-- The token of a half-slot's own cell. -/
def tok (s d : Bool) (c : Dev nD) (t : ℕ) : sProp 𝕄 := dutyTok ER (cell s d c (hsC s d c t)) 0 false
/-- The token of the neighbour's cell that step `t` pays. -/
def tokN (d : Bool) (c : Dev nD) (t : ℕ) : sProp 𝕄 := dutyTok ER (cell true d (nb d c) (hsS d c t)) 0 false

/-- The tokens of the duties device `c` pays. -/
def pays (c : Dev nD) : sProp 𝕄 :=
  iprop((dutyTok ER (barC (nb false c)) 0 true ∗ dutyTok ER (barC (nb true c)) 0 false)
    ∗ (bigSep (Finset.range 15) (tok (F := F) false true c) ∗ bigSep (Finset.range 15) (tokN (F := F) true c))
    ∗ (bigSep (Finset.range 15) (tok (F := F) false false c) ∗ bigSep (Finset.range 15) (tokN (F := F) false c)))

omit [FloatOps F] in
theorem toks_eq (c : Dev nD) : (toks c : sProp 𝕄)
    = iprop((dutyTok ER (barC c) 0 true ∗ dutyTok ER (barC c) 0 false)
      ∗ (bigSep (Finset.range 15) (tok (F := F) false true c) ∗ bigSep (Finset.range 15) (tok (F := F) true true c))
      ∗ (bigSep (Finset.range 15) (tok (F := F) false false c) ∗ bigSep (Finset.range 15) (tok (F := F) true false c))) := by
  unfold toks
  rw [bigSep_univ_sum, ← all_steps fun s d t => tok s d c t, bigSep_univ_eq_bigSepL [true, false] (by decide) (by decide), bigSepL_cons_cons, bigSepL_singleton]
  rfl

omit [FloatOps F] in
theorem places_eq (c : Dev nD) : (places c : sProp 𝕄)
    = iprop(atPos ER (barC c) 0 ∅ 0
      ∗ (bigSep (Finset.range 15) (at_ (F := F) 0 false true c) ∗ bigSep (Finset.range 15) (at_ (F := F) 0 true true c))
      ∗ (bigSep (Finset.range 15) (at_ (F := F) 0 false false c) ∗ bigSep (Finset.range 15) (at_ (F := F) 0 true false c))) := by
  unfold places
  rw [bigSep_univ_sum, ← all_steps fun s d t => at_ 0 s d c t, Finset.univ_unique, bigSep_singleton]
  rfl

omit [FloatOps F] in
/-- The tokens dealt around the ring. -/
theorem deal : (bigSep Finset.univ fun c : Dev nD => (toks c : sProp 𝕄)) ⊢ bigSep Finset.univ fun c : Dev nD => pays c := by
  have hN (d : Bool) (c : Dev nD) : bigSep (Finset.range 15) (tok (F := F) true d (nbE d c)) = bigSep (Finset.range 15) (tokN (F := F) d c) :=
    bigSep_congr fun t _ => by
      show dutyTok ER (cell true d (nb d c) (hsR d (nb d c) t)) 0 false = _
      rw [hsR_nb]; rfl
  simp only [toks_eq, pays, bigSep_sep']
  rw [bigSep_univ_equiv (nbE true) (fun c : Dev nD => bigSep (Finset.range 15) (tok (F := F) true true c)),
    bigSep_univ_equiv (nbE false) (fun c : Dev nD => bigSep (Finset.range 15) (tok (F := F) true false c)),
    bigSep_univ_equiv (nbE false) (fun c : Dev nD => (dutyTok ER (barC c) 0 true : sProp 𝕄)),
    bigSep_univ_equiv (nbE true) (fun c : Dev nD => (dutyTok ER (barC c) 0 false : sProp 𝕄))]
  simp only [hN]
  exact BI.Entails.refl _

/-- What device `c` starts from, but the credit. -/
def G' (c : Dev nD) : sProp 𝕄 := iprop(recs m ∗ places c ∗ pays c ∗ unused c)

theorem regroup :
    (bigSep Finset.univ fun c : Dev nD => iprop(invs m c ∗ marks c ∗ places c ∗ toks c ∗ unused c) : sProp 𝕄) ⊢ bigSep Finset.univ (G' m) := by
  have hk : iprop((bigSep Finset.univ fun c : Dev nD => invs m c) ∗ bigSep Finset.univ fun c : Dev nD => marks (F := F) c) ⊢ recs m := by
    unfold invs marks recs
    rw [← bigSep_univ_prod (fun p : Dev nD × Ck => iprop(∃ κ : ℕ, cellInv ER (rd m) κ (kcell p))),
      ← bigSep_univ_prod (fun p : Dev nD × Ck => (reached ER (kcell p) 0 : sProp 𝕄)), ← bigSep_sep']
    have h (p : Dev nD × Ck) : iprop((∃ κ : ℕ, cellInv ER (rd m) κ (kcell p)) ∗ reached ER (kcell p) 0) ⊢ known m (kcell p) := by
      unfold known
      iintro ⟨⟨%κ, H⟩, H2⟩
      iexists κ
      isplitl [H]; · iexact H
      iexact H2
    exact bigSep_mono fun p _ => h p
  rw [bigSep_sep', bigSep_sep', bigSep_sep', bigSep_sep']
  iintro ⟨HI, HR, Hat, Htok, Hun⟩
  ihave #HK := hk $$ [HI HR]
  · isplitl [HI]; · iexact HI
    iexact HR
  ihave Htok := (deal (F := F)) $$ Htok
  have hg (c : Dev nD) : iprop(recs m ∗ (places c ∗ pays c ∗ unused c)) ⊢ G' m c := by unfold G'; exact BI.Entails.refl _
  iapply (bigSep_with_persistent (R := recs m) fun c _ => hg c)
  isplitr; · iexact HK
  rw [bigSep_sep', bigSep_sep']
  isplitl [Hat]; · iexact Hat
  isplitl [Htok]; · iexact Htok
  iexact Hun

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

theorem nb_iff (d : Bool) (a c : Dev nD) : c = nb d a ↔ a = nb (!d) c :=
  ⟨fun h => by rw [h, nb_nb], fun h => by rw [h, nb_nb']⟩

theorem due_at (e e' : Bool) (a c : Dev nD) (t t' : ℕ) (ht : t < 15) (ht' : t' < 15) :
    due e' a t' (cell true e c (hsR e c t)) () = if t' = t then (if e' = e ∧ a = nb (!e) c then N else 0) else 0 := by
  unfold due
  rw [tallyAt_apply, ← ite_and]
  refine if_congr ?_ rfl rfl
  constructor
  · rintro ⟨h, -⟩
    obtain ⟨-, rfl, h3, h4⟩ := cell_inj h
    rw [← hsR_nb, ← h3] at h4
    exact ⟨(Fin.mk.inj (hsR_inj e c ⟨t, ht⟩ ⟨t', ht'⟩ h4)).symm, rfl, (nb_iff e a c).mp h3⟩
  · rintro ⟨rfl, rfl, rfl⟩
    refine ⟨?_, rfl⟩
    rw [nb_nb', hsS_nb']

theorem owe_recv (e : Bool) (a c : Dev nD) (t : ℕ) (ht : t < 15) :
    owe a 0 (cell true e c (hsR e c t)) () = if a = nb (!e) c then N else 0 := by
  unfold owe
  rw [Finset.sum_apply, Finsupp.finset_sum_apply]
  have h : ∀ t' ∈ Finset.Ico 0 15, (due false a t' + due true a t') (cell true e c (hsR e c t)) ()
      = if t' = t then (if a = nb (!e) c then N else 0) else 0 := by
    intro t' h'
    have ht' := (Finset.mem_Ico.mp h').2
    rw [Pi.add_apply, Finsupp.add_apply, due_at e false a c t t' ht ht', due_at e true a c t t' ht ht']
    cases e <;> by_cases h1 : t' = t <;> simp [h1]
  rw [Finset.sum_congr rfl h, Finset.sum_ite_eq', if_pos (Finset.mem_Ico.mpr ⟨Nat.zero_le _, ht⟩)]

theorem owed_recv (e : Bool) (a c : Dev nD) (t : ℕ) (ht : t < 15) :
    O₀ a (cell true e c (hsR e c t)) () = if a = nb (!e) c then N else 0 := by
  unfold O₀
  rw [Pi.add_apply, Finsupp.add_apply, Pi.add_apply, Finsupp.add_apply, tallyAt_apply, tallyAt_apply,
    if_neg (fun h => bar_ne_cell h.1.symm), if_neg (fun h => bar_ne_cell h.1.symm), owe_recv e a c t ht,
    Nat.add_zero]

theorem owed_bar (a c : Dev nD) : O₀ a (barC c) () = (if a = nb false c then 1 else 0) + if a = nb true c then 1 else 0 := by
  have hz : owe a 0 (barC c) () = 0 := by
    by_contra h
    obtain ⟨d, t, -, -, hg⟩ := owe_pos (Nat.pos_of_ne_zero h)
    exact bar_ne_cell hg
  have hb (d : Bool) : (barC c = barC (nb d a) ∧ () = ()) ↔ a = nb (!d) c :=
    ⟨fun h => (nb_iff d a c).mp (congrArg (fun g : GSem nD τ sig => g.1.1) h.1), fun h => ⟨by rw [← (nb_iff d a c).mpr h], rfl⟩⟩
  unfold O₀
  rw [Pi.add_apply, Finsupp.add_apply, Pi.add_apply, Finsupp.add_apply, tallyAt_apply, tallyAt_apply, hz, Nat.zero_add,
    if_congr (hb true) rfl rfl, if_congr (hb false) rfl rfl]
  rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq', Finset.sum_ite_eq', if_pos (Finset.mem_univ _), if_pos (Finset.mem_univ _)]

theorem launch_recv (e : Bool) (c : Dev nD) (t : ℕ) (ht : t < 15) :
    tallyOn (cell true e c (hsR e c t)) (launchCredit (Pipeline.owing O₀) 0 (cell true e c (hsR e c t)))
      = (tallyAt (cell true e c (hsR e c t)) () N : CellTallies nD τ sig Unit) := by
  unfold tallyAt; refine congrArg _ (Finsupp.ext fun u => ?_); cases u
  rw [Pipeline.launchCredit_owing, Finsupp.single_eq_same, Finset.sum_congr rfl fun d _ => owed_recv e d c t ht,
    Finset.sum_ite_eq', if_pos (Finset.mem_univ _)]

/-- The semaphores on which a device has credit at the launch. -/
def credSem (c : Dev nD) (k : Unit ⊕ (Bool × Fin 15)) : SemLoc sig :=
  match k with
  | .inl _ => .reg barS
  | .inr (d, t) => .dma (semOf true d (hsR d c t))

theorem credSem_inj (c : Dev nD) : Function.Injective (credSem c) := by
  intro k k' h
  have h' : (((c : Thread nD τ), credSem c k) : GSem nD τ sig) = ((c : Thread nD τ), credSem c k') := by rw [h]
  rcases k with u | ⟨d, t⟩ <;> rcases k' with u' | ⟨d', t'⟩
  · rfl
  · exact (bar_ne_cell h').elim
  · exact (bar_ne_cell h'.symm).elim
  · obtain ⟨-, rfl, -, h4⟩ := cell_inj h'
    obtain rfl := hsR_inj d c t t' h4
    rfl

omit [FloatOps F] in
theorem creds (c : Dev nD) :
    (Pipeline.launchCred O₀ c : sProp 𝕄)
      ⊢ iprop(cred (tallyAt (barC c) () 2) ∗ bigSep (Finset.range 15) (crd (F := F) true true c) ∗ bigSep (Finset.range 15) (crd (F := F) true false c)) := by
  unfold Pipeline.launchCred
  refine (bigSep_subset (t := Finset.univ.image (credSem c)) (Finset.subset_univ _)).trans ?_
  rw [bigSep_image_of_injOn (fun _ _ _ _ h => credSem_inj c h), bigSep_univ_sum, Finset.univ_unique, bigSep_singleton, bigSep_univ_prod,
    bigSep_univ_eq_bigSepL [true, false] (by decide) (by decide), bigSepL_cons_cons, bigSepL_singleton]
  have h (d : Bool) : (bigSep Finset.univ fun t : Fin 15 => (cred (tallyOn ((c : Thread nD τ), credSem c (.inr (d, t)))
        (launchCredit (Pipeline.owing O₀) 0 ((c : Thread nD τ), credSem c (.inr (d, t))))) : sProp 𝕄)) = bigSep (Finset.range 15) (crd (F := F) true d c) :=
    Ring.bigSep_fin_eq_range 15 _ _ fun t ht => by
      show cred (tallyAt (cell true d c (hsR d c t)) () N) = _
      rw [← launch_recv d c t ht]; rfl
  refine BI.sep_mono (Entails.of_eq (congrArg cred (launch_bar c))) (BI.sep_mono (Entails.of_eq (h true)) (Entails.of_eq (h false)))

/-! ## The theorem's side conditions -/

theorem share_eq (c : Dev nD) (w : Fin cfg0.W) : (dats m ρ 0 c).share w = fullShare := by unfold Dat.share; split <;> rfl

omit [FloatOps F] in
/-- A direction's tokens, places and credit, step by step. -/
theorem ready_all (d : Bool) (c : Dev nD) :
    iprop((bigSep (Finset.range 15) (tok (F := F) false d c) ∗ bigSep (Finset.range 15) (tokN (F := F) d c))
        ∗ (bigSep (Finset.range 15) (at_ (F := F) 0 false d c) ∗ bigSep (Finset.range 15) (at_ (F := F) 0 true d c))
        ∗ bigSep (Finset.range 15) (crd (F := F) true d c))
      ⊢ (bigSep (Finset.range 15) (ready (F := F) d c) : sProp 𝕄) := by
  have h : ready (F := F) d c = fun t => iprop((tok false d c t ∗ tokN d c t) ∗ at_ 0 false d c t ∗ at_ 0 true d c t ∗ crd true d c t) := rfl
  rw [h, bigSep_sep', bigSep_sep', bigSep_sep', bigSep_sep']
  iintro ⟨H1, ⟨H2, H3⟩, H4⟩
  isplitl [H1]; · iexact H1
  isplitl [H2]; · iexact H2
  isplitl [H3]; · iexact H3
  iexact H4

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((pre m c ∗ unused c) ∗ emp) := by
  unfold G' pays pre barG
  rw [places_eq]
  iintro ⟨-, Hlev, Hcr, -, HR, ⟨Hb, Hpt, Hpf⟩, ⟨⟨Hb1, Hb2⟩, Htt, Htf⟩, Hun⟩
  ihave Hc := (creds (F := F) c) $$ Hcr
  icases Hc with ⟨Hc, Hct, Hcf⟩
  ihave Ht := (ready_all (F := F) true c) $$ [Htt Hpt Hct]
  · isplitl [Htt]; · iexact Htt
    isplitl [Hpt]; · iexact Hpt
    iexact Hct
  ihave Hf := (ready_all (F := F) false c) $$ [Htf Hpf Hcf]
  · isplitl [Htf]; · iexact Htf
    isplitl [Hpf]; · iexact Hpf
    iexact Hcf
  imodintro
  isplitl
  · isplitr [Hun]
    · isplitl [HR]; · iexact HR
      isplitl [Hlev]; · iexact Hlev
      isplitl [Hb Hc Hb1 Hb2]
      · isplitl [Hb]; · iexact Hb
        isplitl [Hc]; · iexact Hc
        isplitl [Hb1]; · iexact Hb1
        iexact Hb2
      isplitl [Ht]; · iexact Ht
      iexact Hf
    iexact Hun
  · iempintro

theorem phi0_intro (c : Dev nD) :
    iprop((pre m c ∗ unused c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨Hr, Hb, Hz⟩
  isplitl [Hb]; · iexact Hb
  isplitl [Hz]; · iexact Hz
  iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays at the end. -/
def finalA (c : Dev nD) (w : Fin cfg0.W) : Buf (Elt F) ((cfg0.win w).arr.view.loc (c : Thread nD τ)) := (dats m ρ 0 c).arrAt w cfg0.N

/-- Every device's arrays are those. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 32000 in
/-- From any memory with zero counters every fair execution on the sixteen devices ends, with the arrays as the pipeline
    leaves them and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(pre m c ∗ unused c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments at the end are as they were. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- The result at the end is what the body left. -/
theorem finalA_out (c : Dev nD) : finalA m ρ c (2 : Fin 3) = outT m c := by
  have hz : (fun a => (win0_2.index (0 : Fin 1)) a * main_v1.ty.shape.size a) = fun _ => 0 := funext fun a => by fin_cases a <;> decide
  rw [← Memref.read_access_unit_zero (Elt F) main_v1 hz (fun a => by fin_cases a <;> decide) (finalA m ρ c (2 : Fin 3))]
  unfold finalA
  rw [show cfg0.N = t0_0.val + 1 from rfl, (dats m ρ 0 c).arrAt_succ (2 : Fin 3) t0_0, if_pos (flush0_2 t0_0)]
  exact View.read_write_univ _ _

/-- The staged block is the block; -/
theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- and the staged columns are the columns. -/
theorem wstg_eq (c : Dev nD) : wstg m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

end Cert.KernelIdeal.Hop

end
-- ==== Proof.ValueIdeal.lean ====
module

public import proofs.«01_k».proof.Proof.RunIdeal
public import proofs.«01_k».proof.Proof.Gen.ReferenceIdeal
public import Idealize.ShloMosaic.Lib.KernelVsHost
public import Idealize.ShloMosaic.Lib.StackMember
public import Idealize.ShloMosaic.Lib.Layout

/-! # The value

In real arithmetic device `c`'s result is block `c` of the clipped product of the whole arrays. -/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen
open Idealize.ShloMosaic.ValueIdx
open scoped BigOperators

/-- The sum over the contracted coordinate at a row and a column, clipped at zero. -/
def clipSum {M K N : ℕ} (A : (⟨2, ![M, K]⟩ : Shape).Idx → EReal) (B : (⟨2, ![K, N]⟩ : Shape).Idx → EReal) (r : Fin M) (j : Fin N) : EReal :=
  max (∑ k : Fin K, A (ix2 r k) * B (ix2 k j)) (Scalar.ofBits (F := Ideal) .f32 0x00000000#32)

/-- What the body stores for a half-slot is that of its contents and the columns. -/
theorem pay3_apply (w : FVec Ideal S4096x128 .bf16) (v : Vec Ideal S1x128x4096 .bf16) (r j : Fin 128) :
    k0_pay3 (F := Ideal) w v (ix2 r j) = clipSum (fun i : (⟨2, ![128, 4096]⟩ : Shape).Idx => v (ix3 (n0 := 1) (n1 := 128) (n2 := 4096) 0 (i 0) (i 1))) w r j := by
  unfold k0_pay3 clipSum
  rw [ValueIdx.maximumf_apply, matmul_zero_eq_dotGeneral,
    show dot_S128x4096_S4096x128_S128x128_1_0_0_1_n_n = DotDims.plain 128 4096 128 from rfl, StackMember.dotGeneral_plain_apply]
  refine congrArg₂ max (Finset.sum_congr rfl fun k _ => ?_) rfl
  refine congrArg (· * _) (shapeCast_apply _ _ _ _ ?_)
  rw [Shape.rowMajor_val_two, Shape.rowMajor_val_three]
  simp

/-- The reference's value is that of the whole arrays. -/
theorem ref_apply (X : FVec Ideal ⟨2, ![4096, 4096]⟩ .bf16) (W : FVec Ideal ⟨2, ![4096, 2048]⟩ .bf16)
    (h : FTy.bits .bf16 < FTy.bits .f32) (hb) (r : Fin 4096) (j : Fin 2048) :
    maximumf (Host.dotGeneral Cert.ReferenceIdeal.dot_S4096x4096_S4096x2048_S4096x2048_1_0_0_1_n_n none (extf .f32 X h) (extf .f32 W h))
        (broadcastInDim ⟨2, ![4096, 2048]⟩ ![] hb (constant (F := Ideal) Cert.ReferenceIdeal.S_ .f32 0x00000000#32)) (ix2 r j) = clipSum X W r j := by
  unfold clipSum
  rw [ValueIdx.maximumf_apply,
    show Cert.ReferenceIdeal.dot_S4096x4096_S4096x2048_S4096x2048_1_0_0_1_n_n = DotDims.plain 4096 4096 2048 from rfl, StackMember.dotGeneral_plain_apply]
  rfl

variable (m : (ℓ : Loc nD τ sig) → Buf (Elt Ideal) ℓ)

/-- A row of a half-slot is the row of its origin's block. -/
theorem half_apply (hs : Fin 32) (r : Fin 128) (k : Fin 4096) :
    halfV m hs (ix3 (n0 := 1) 0 r k)
      = m (((rg ⟨hs.val / 2, by omega⟩ : Dev nD) : Thread nD τ).loc main_arg0) (ix2 (n0 := 256) (n1 := 4096) ⟨hs.val % 2 * 128 + r.val, by omega⟩ k) := by
  unfold halfV commV
  rw [xstg_eq]
  unfold k0_pay2
  rw [shapeCast_self, shapeCast_self]
  refine shapeCast_apply _ _ _ _ ?_
  rw [Shape.rowMajor_val_two, Shape.rowMajor_val_three]
  rfl

variable (X : FVec Ideal ⟨2, ![4096, 4096]⟩ .bf16) (W : FVec Ideal ⟨2, ![4096, 2048]⟩ .bf16)

/-- Where every device holds its blocks of whole arrays, its result is its block of the whole result. -/
theorem out_apply (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = Layout.block ⟨2, ![4096, 128]⟩ ⟨2, ![4096, 2048]⟩ 1 16 c W)
    (c : Dev nD) (r : Fin 4096) (j : Fin 128) (jj : Fin 2048) (hj : jj.val = c.val * 128 + j.val) :
    outT m c (ix2 (n0 := 4096) (n1 := 128) r j) = clipSum X W r jj := by
  have hr : row (hsRow r) + r.val % 128 = r.val := by
    have h := (hsRow_eq r (hsRow r)).mp rfl
    unfold row at h ⊢
    omega
  obtain ⟨q, hq⟩ : ∃ q : Fin 128, q = ⟨r.val % 128, Nat.mod_lt _ (by decide)⟩ := ⟨_, rfl⟩
  show k0_pay3 (F := Ideal) (k0_pay1 (wstg m c)) (halfV m (hsRow r)) (ix2 (n0 := 128) (n1 := 128) ⟨r.val % 128, Nat.mod_lt _ (by decide)⟩ j) = _
  rw [← hq, pay3_apply]
  have hA (k : Fin 4096) : halfV m (hsRow r) (ix3 (n0 := 1) 0 q k) = X (ix2 r k) := by
    rw [half_apply, hX]
    refine congrArg X (funext fun a => Fin.ext ?_)
    have hq' : q.val = r.val % 128 := by rw [hq]
    unfold row at hr
    fin_cases a
    · show (rg ⟨(hsRow r).val / 2, by omega⟩).val * 256 + ((hsRow r).val % 2 * 128 + q.val) = r.val
      omega
    · rfl
  have hB (k : Fin 4096) : k0_pay1 (wstg m c) (ix2 (n0 := 4096) (n1 := 128) k j) = W (ix2 k jj) := by
    unfold k0_pay1
    rw [shapeCast_self, wstg_eq, hW c]
    refine congrArg W (funext fun a => Fin.ext ?_)
    fin_cases a
    · rfl
    · exact hj.symm
  unfold clipSum
  exact congrArg (max · _) (Finset.sum_congr rfl fun k _ => congrArg₂ (· * ·) (hA k) (hB k))

end Cert.KernelIdeal.Hop

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.ValueIdeal
public import Idealize.ShloMosaic.Adequacy
public import Idealize.ShloMosaic.Init

@[expose] public section

noncomputable section

namespace Cert.Proof

open Idealize.ShloMosaic Idealize.ShloMosaic.TcCoe Idealize.SL.Sem

/-- The kernel as compiled runs, keeps its arguments and ends with every counter at zero. -/
theorem frame_kernel : Cert.quiescent_Kernel := fun m g _ =>
  (θ_run Cert.Kernel.defs _ _).mono
    (fun _ h => ⟨fun c => ⟨(h.1 c (0 : Fin 3)).trans (Cert.Kernel.Hop.finalA_x m g c), (h.1 c (1 : Fin 3)).trans (Cert.Kernel.Hop.finalA_w m g c)⟩, h.2⟩)
    (Cert.Kernel.Hop.run_main m g)

/-- The same of its reading in real arithmetic. -/
theorem frame_ideal : Cert.quiescent_KernelIdeal := fun m g _ =>
  (θ_run Cert.KernelIdeal.defs _ _).mono
    (fun _ h => ⟨fun c => ⟨(h.1 c (0 : Fin 3)).trans (Cert.KernelIdeal.Hop.finalA_x m g c), (h.1 c (1 : Fin 3)).trans (Cert.KernelIdeal.Hop.finalA_w m g c)⟩, h.2⟩)
    (Cert.KernelIdeal.Hop.run_main m g)

/-- The reference runs and keeps its arguments; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- In real arithmetic every device ends with its columns of the reference's result. -/
theorem value : Cert.algebraic_KernelIdeal_ReferenceIdeal := by
  intro m g m' g' _ hag
  refine ⟨_, ?_, (θ_run Cert.ReferenceIdeal.defs _ _).mono (fun r h => h 0) (Cert.ReferenceIdeal.Value.run m' g')⟩
  refine (θ_run Cert.KernelIdeal.defs _ _).mono
    (fun _ h c => ⟨(h.1 c (2 : Fin 3)).trans ?_, (h.1 c (0 : Fin 3)).trans (Cert.KernelIdeal.Hop.finalA_x m g c),
      (h.1 c (1 : Fin 3)).trans (Cert.KernelIdeal.Hop.finalA_w m g c)⟩) (Cert.KernelIdeal.Hop.run_main m g)
  rw [Cert.KernelIdeal.Hop.finalA_out]
  funext i
  rw [ValueIdx.eq_ix2 i]
  refine (Cert.KernelIdeal.Hop.out_apply m _ _ (fun c => (hag c).1) (fun c => (hag c).2) c (i 0) (i 1)
    ⟨c.val * 128 + (i 1).val, by have h1 : c.val < 16 := c.isLt; have h2 : (i 1).val < 128 := ValueIdx.idx2_lt1 i; omega⟩ rfl).trans ?_
  refine (Cert.KernelIdeal.Hop.ref_apply _ _ Cert.ReferenceIdeal.Gen.bitsLt_bf16_f32 Cert.ReferenceIdeal.Gen.bcast_S_S4096x2048 _ _).symm.trans ?_
  refine congrArg _ (funext fun a => Fin.ext ?_)
  fin_cases a <;> rfl

/-- Every claim. -/
theorem claim : Cert.Claim := ⟨Cert.Kernel.Gen.facts, Cert.KernelIdeal.Gen.facts, Cert.ReferenceIdeal.Gen.facts,
  frame_kernel, frame_ideal, frame_reference, trivial, value⟩

end Cert.Proof

end
